-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S4096x512 : Shape := ⟨2, ![4096, 512]⟩
abbrev S2x4096x512 : Shape := ⟨3, ![2, 4096, 512]⟩
abbrev S16x256x512 : Shape := ⟨3, ![16, 256, 512]⟩
abbrev S16x8x128 : Shape := ⟨3, ![16, 8, 128]⟩
abbrev S2 : Shape := ⟨1, ![2]⟩
abbrev S16 : Shape := ⟨1, ![16]⟩
abbrev S_ : Shape := ⟨0, ![]⟩
abbrev S1 : Shape := ⟨1, ![1]⟩
abbrev S1x4096x512 : Shape := ⟨3, ![1, 4096, 512]⟩
abbrev S256x512 : Shape := ⟨2, ![256, 512]⟩
abbrev S1x256x512 : Shape := ⟨3, ![1, 256, 512]⟩
abbrev S1x1x1 : Shape := ⟨3, ![1, 1, 1]⟩
abbrev S8x128 : Shape := ⟨2, ![8, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S4096x8192, .f32⟩
  | .hbm, ⟨2, _⟩ => ⟨S4096x512, .f32⟩
  | .local _ .vmem, ⟨0, _⟩ => ⟨S256x4096, .f32⟩
  | .local _ .vmem, ⟨1, _⟩ => ⟨S4096x512, .f32⟩
  | .local _ .vmem, ⟨2, _⟩ => ⟨S2x4096x512, .f32⟩
  | .local _ .vmem, ⟨3, _⟩ => ⟨S16x256x512, .f32⟩
  | .local _ .vmem, ⟨4, _⟩ => ⟨S16x8x128, .f32⟩
  | .local _ .vmem, ⟨5, _⟩ => ⟨S16x256x512, .fp8e4m3⟩
  | .local _ .vmem, ⟨6, _⟩ => ⟨S16x256x512, .fp8e4m3⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_385 : BitVec 32 := 1#32
  let v452 : BitVec 32 := Scalar.addi v2 c1_i32_385
  let c16_i32_386 : BitVec 32 := 16#32
  let v453 : BitVec 32 := Scalar.remsi v452 c16_i32_386
  let c1_i32_391 : BitVec 32 := 1#32
  let v454 : BitVec 32 := Scalar.muli v453 c1_i32_391
  let v455 : BitVec 32 := Scalar.addi c0_i32_392 v454
  v455.toNat
def k0_dev17 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_397 : BitVec 32 := 2#32
  let v464 : BitVec 32 := Scalar.addi v2 c2_i32_397
  let c16_i32_398 : BitVec 32 := 16#32
  let v465 : BitVec 32 := Scalar.remsi v464 c16_i32_398
  let c1_i32_403 : BitVec 32 := 1#32
  let v466 : BitVec 32 := Scalar.muli v465 c1_i32_403
  let v467 : BitVec 32 := Scalar.addi c0_i32_404 v466
  v467.toNat
def k0_dev18 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_409 : BitVec 32 := 3#32
  let v476 : BitVec 32 := Scalar.addi v2 c3_i32_409
  let c16_i32_410 : BitVec 32 := 16#32
  let v477 : BitVec 32 := Scalar.remsi v476 c16_i32_410
  let c1_i32_415 : BitVec 32 := 1#32
  let v478 : BitVec 32 := Scalar.muli v477 c1_i32_415
  let v479 : BitVec 32 := Scalar.addi c0_i32_416 v478
  v479.toNat
def k0_dev19 (d0 : Dev nD) : Nat :=
  let c0_i32_428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_421 : BitVec 32 := 4#32
  let v488 : BitVec 32 := Scalar.addi v2 c4_i32_421
  let c16_i32_422 : BitVec 32 := 16#32
  let v489 : BitVec 32 := Scalar.remsi v488 c16_i32_422
  let c1_i32_427 : BitVec 32 := 1#32
  let v490 : BitVec 32 := Scalar.muli v489 c1_i32_427
  let v491 : BitVec 32 := Scalar.addi c0_i32_428 v490
  v491.toNat
def k0_dev20 (d0 : Dev nD) : Nat :=
  let c0_i32_440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_433 : BitVec 32 := 5#32
  let v500 : BitVec 32 := Scalar.addi v2 c5_i32_433
  let c16_i32_434 : BitVec 32 := 16#32
  let v501 : BitVec 32 := Scalar.remsi v500 c16_i32_434
  let c1_i32_439 : BitVec 32 := 1#32
  let v502 : BitVec 32 := Scalar.muli v501 c1_i32_439
  let v503 : BitVec 32 := Scalar.addi c0_i32_440 v502
  v503.toNat
def k0_dev21 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_445 : BitVec 32 := 6#32
  let v512 : BitVec 32 := Scalar.addi v2 c6_i32_445
  let c16_i32_446 : BitVec 32 := 16#32
  let v513 : BitVec 32 := Scalar.remsi v512 c16_i32_446
  let c1_i32_451 : BitVec 32 := 1#32
  let v514 : BitVec 32 := Scalar.muli v513 c1_i32_451
  let v515 : BitVec 32 := Scalar.addi c0_i32_452 v514
  v515.toNat
def k0_dev22 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_457 : BitVec 32 := 7#32
  let v524 : BitVec 32 := Scalar.addi v2 c7_i32_457
  let c16_i32_458 : BitVec 32 := 16#32
  let v525 : BitVec 32 := Scalar.remsi v524 c16_i32_458
  let c1_i32_463 : BitVec 32 := 1#32
  let v526 : BitVec 32 := Scalar.muli v525 c1_i32_463
  let v527 : BitVec 32 := Scalar.addi c0_i32_464 v526
  v527.toNat
def k0_dev23 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_469 : BitVec 32 := 8#32
  let v536 : BitVec 32 := Scalar.addi v2 c8_i32_469
  let c16_i32_470 : BitVec 32 := 16#32
  let v537 : BitVec 32 := Scalar.remsi v536 c16_i32_470
  let c1_i32_475 : BitVec 32 := 1#32
  let v538 : BitVec 32 := Scalar.muli v537 c1_i32_475
  let v539 : BitVec 32 := Scalar.addi c0_i32_476 v538
  v539.toNat
def k0_dev24 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_481 : BitVec 32 := 9#32
  let v548 : BitVec 32 := Scalar.addi v2 c9_i32_481
  let c16_i32_482 : BitVec 32 := 16#32
  let v549 : BitVec 32 := Scalar.remsi v548 c16_i32_482
  let c1_i32_487 : BitVec 32 := 1#32
  let v550 : BitVec 32 := Scalar.muli v549 c1_i32_487
  let v551 : BitVec 32 := Scalar.addi c0_i32_488 v550
  v551.toNat
def k0_dev25 (d0 : Dev nD) : Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_493 : BitVec 32 := 10#32
  let v560 : BitVec 32 := Scalar.addi v2 c10_i32_493
  let c16_i32_494 : BitVec 32 := 16#32
  let v561 : BitVec 32 := Scalar.remsi v560 c16_i32_494
  let c1_i32_499 : BitVec 32 := 1#32
  let v562 : BitVec 32 := Scalar.muli v561 c1_i32_499
  let v563 : BitVec 32 := Scalar.addi c0_i32_500 v562
  v563.toNat
def k0_dev26 (d0 : Dev nD) : Nat :=
  let c0_i32_512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_505 : BitVec 32 := 11#32
  let v572 : BitVec 32 := Scalar.addi v2 c11_i32_505
  let c16_i32_506 : BitVec 32 := 16#32
  let v573 : BitVec 32 := Scalar.remsi v572 c16_i32_506
  let c1_i32_511 : BitVec 32 := 1#32
  let v574 : BitVec 32 := Scalar.muli v573 c1_i32_511
  let v575 : BitVec 32 := Scalar.addi c0_i32_512 v574
  v575.toNat
def k0_dev27 (d0 : Dev nD) : Nat :=
  let c0_i32_524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_517 : BitVec 32 := 12#32
  let v584 : BitVec 32 := Scalar.addi v2 c12_i32_517
  let c16_i32_518 : BitVec 32 := 16#32
  let v585 : BitVec 32 := Scalar.remsi v584 c16_i32_518
  let c1_i32_523 : BitVec 32 := 1#32
  let v586 : BitVec 32 := Scalar.muli v585 c1_i32_523
  let v587 : BitVec 32 := Scalar.addi c0_i32_524 v586
  v587.toNat
def k0_dev28 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_529 : BitVec 32 := 13#32
  let v596 : BitVec 32 := Scalar.addi v2 c13_i32_529
  let c16_i32_530 : BitVec 32 := 16#32
  let v597 : BitVec 32 := Scalar.remsi v596 c16_i32_530
  let c1_i32_535 : BitVec 32 := 1#32
  let v598 : BitVec 32 := Scalar.muli v597 c1_i32_535
  let v599 : BitVec 32 := Scalar.addi c0_i32_536 v598
  v599.toNat
def k0_dev29 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_541 : BitVec 32 := 14#32
  let v608 : BitVec 32 := Scalar.addi v2 c14_i32_541
  let c16_i32_542 : BitVec 32 := 16#32
  let v609 : BitVec 32 := Scalar.remsi v608 c16_i32_542
  let c1_i32_547 : BitVec 32 := 1#32
  let v610 : BitVec 32 := Scalar.muli v609 c1_i32_547
  let v611 : BitVec 32 := Scalar.addi c0_i32_548 v610
  v611.toNat
def k0_dev30 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_553 : BitVec 32 := 15#32
  let v620 : BitVec 32 := Scalar.addi v2 c15_i32_553
  let c16_i32_554 : BitVec 32 := 16#32
  let v621 : BitVec 32 := Scalar.remsi v620 c16_i32_554
  let c1_i32_559 : BitVec 32 := 1#32
  let v622 : BitVec 32 := Scalar.muli v621 c1_i32_559
  let v623 : BitVec 32 := Scalar.addi c0_i32_560 v622
  v623.toNat
def k0_off1 (d0 : Dev nD) (c1_i32_915 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v908 : BitVec 32 := Scalar.addi v2 c1_i32_915
  let c16_i32_916 : BitVec 32 := 16#32
  let v909 : BitVec 32 := Scalar.remsi v908 c16_i32_916
  let v910 : Index := Scalar.indexCast v909
  let c0_917 : Index := 0#32
  let c0_918 : Index := 0#32
  ![v910.toNat, 0, 0]
def k0_dev31 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_922 : BitVec 32 := 1#32
  let v919 : BitVec 32 := Scalar.addi v2 c1_i32_922
  let c16_i32_923 : BitVec 32 := 16#32
  let v920 : BitVec 32 := Scalar.remsi v919 c16_i32_923
  let c1_i32_928 : BitVec 32 := 1#32
  let v921 : BitVec 32 := Scalar.muli v920 c1_i32_928
  let v922 : BitVec 32 := Scalar.addi c0_i32_929 v921
  v922.toNat
def k0_dev32 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_941 : BitVec 32 := 2#32
  let v942 : BitVec 32 := Scalar.addi v2 c2_i32_941
  let c16_i32_942 : BitVec 32 := 16#32
  let v943 : BitVec 32 := Scalar.remsi v942 c16_i32_942
  let c1_i32_947 : BitVec 32 := 1#32
  let v944 : BitVec 32 := Scalar.muli v943 c1_i32_947
  let v945 : BitVec 32 := Scalar.addi c0_i32_948 v944
  v945.toNat
def k0_dev33 (d0 : Dev nD) : Nat :=
  let c0_i32_967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_960 : BitVec 32 := 3#32
  let v965 : BitVec 32 := Scalar.addi v2 c3_i32_960
  let c16_i32_961 : BitVec 32 := 16#32
  let v966 : BitVec 32 := Scalar.remsi v965 c16_i32_961
  let c1_i32_966 : BitVec 32 := 1#32
  let v967 : BitVec 32 := Scalar.muli v966 c1_i32_966
  let v968 : BitVec 32 := Scalar.addi c0_i32_967 v967
  v968.toNat
def k0_dev34 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_979 : BitVec 32 := 4#32
  let v988 : BitVec 32 := Scalar.addi v2 c4_i32_979
  let c16_i32_980 : BitVec 32 := 16#32
  let v989 : BitVec 32 := Scalar.remsi v988 c16_i32_980
  let c1_i32_985 : BitVec 32 := 1#32
  let v990 : BitVec 32 := Scalar.muli v989 c1_i32_985
  let v991 : BitVec 32 := Scalar.addi c0_i32_986 v990
  v991.toNat
def k0_dev35 (d0 : Dev nD) : Nat :=
  let c0_i32_1005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_998 : BitVec 32 := 5#32
  let v1011 : BitVec 32 := Scalar.addi v2 c5_i32_998
  let c16_i32_999 : BitVec 32 := 16#32
  let v1012 : BitVec 32 := Scalar.remsi v1011 c16_i32_999
  let c1_i32_1004 : BitVec 32 := 1#32
  let v1013 : BitVec 32 := Scalar.muli v1012 c1_i32_1004
  let v1014 : BitVec 32 := Scalar.addi c0_i32_1005 v1013
  v1014.toNat
def k0_dev36 (d0 : Dev nD) : Nat :=
  let c0_i32_1024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1017 : BitVec 32 := 6#32
  let v1034 : BitVec 32 := Scalar.addi v2 c6_i32_1017
  let c16_i32_1018 : BitVec 32 := 16#32
  let v1035 : BitVec 32 := Scalar.remsi v1034 c16_i32_1018
  let c1_i32_1023 : BitVec 32 := 1#32
  let v1036 : BitVec 32 := Scalar.muli v1035 c1_i32_1023
  let v1037 : BitVec 32 := Scalar.addi c0_i32_1024 v1036
  v1037.toNat
def k0_dev37 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1036 : BitVec 32 := 7#32
  let v1057 : BitVec 32 := Scalar.addi v2 c7_i32_1036
  let c16_i32_1037 : BitVec 32 := 16#32
  let v1058 : BitVec 32 := Scalar.remsi v1057 c16_i32_1037
  let c1_i32_1042 : BitVec 32 := 1#32
  let v1059 : BitVec 32 := Scalar.muli v1058 c1_i32_1042
  let v1060 : BitVec 32 := Scalar.addi c0_i32_1043 v1059
  v1060.toNat
def k0_dev38 (d0 : Dev nD) : Nat :=
  let c0_i32_1062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1055 : BitVec 32 := 8#32
  let v1080 : BitVec 32 := Scalar.addi v2 c8_i32_1055
  let c16_i32_1056 : BitVec 32 := 16#32
  let v1081 : BitVec 32 := Scalar.remsi v1080 c16_i32_1056
  let c1_i32_1061 : BitVec 32 := 1#32
  let v1082 : BitVec 32 := Scalar.muli v1081 c1_i32_1061
  let v1083 : BitVec 32 := Scalar.addi c0_i32_1062 v1082
  v1083.toNat
def k0_dev39 (d0 : Dev nD) : Nat :=
  let c0_i32_1081 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1074 : BitVec 32 := 9#32
  let v1103 : BitVec 32 := Scalar.addi v2 c9_i32_1074
  let c16_i32_1075 : BitVec 32 := 16#32
  let v1104 : BitVec 32 := Scalar.remsi v1103 c16_i32_1075
  let c1_i32_1080 : BitVec 32 := 1#32
  let v1105 : BitVec 32 := Scalar.muli v1104 c1_i32_1080
  let v1106 : BitVec 32 := Scalar.addi c0_i32_1081 v1105
  v1106.toNat
def k0_dev40 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1093 : BitVec 32 := 10#32
  let v1126 : BitVec 32 := Scalar.addi v2 c10_i32_1093
  let c16_i32_1094 : BitVec 32 := 16#32
  let v1127 : BitVec 32 := Scalar.remsi v1126 c16_i32_1094
  let c1_i32_1099 : BitVec 32 := 1#32
  let v1128 : BitVec 32 := Scalar.muli v1127 c1_i32_1099
  let v1129 : BitVec 32 := Scalar.addi c0_i32_1100 v1128
  v1129.toNat
def k0_dev41 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1112 : BitVec 32 := 11#32
  let v1149 : BitVec 32 := Scalar.addi v2 c11_i32_1112
  let c16_i32_1113 : BitVec 32 := 16#32
  let v1150 : BitVec 32 := Scalar.remsi v1149 c16_i32_1113
  let c1_i32_1118 : BitVec 32 := 1#32
  let v1151 : BitVec 32 := Scalar.muli v1150 c1_i32_1118
  let v1152 : BitVec 32 := Scalar.addi c0_i32_1119 v1151
  v1152.toNat
def k0_dev42 (d0 : Dev nD) : Nat :=
  let c0_i32_1138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1131 : BitVec 32 := 12#32
  let v1172 : BitVec 32 := Scalar.addi v2 c12_i32_1131
  let c16_i32_1132 : BitVec 32 := 16#32
  let v1173 : BitVec 32 := Scalar.remsi v1172 c16_i32_1132
  let c1_i32_1137 : BitVec 32 := 1#32
  let v1174 : BitVec 32 := Scalar.muli v1173 c1_i32_1137
  let v1175 : BitVec 32 := Scalar.addi c0_i32_1138 v1174
  v1175.toNat
def k0_dev43 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1150 : BitVec 32 := 13#32
  let v1195 : BitVec 32 := Scalar.addi v2 c13_i32_1150
  let c16_i32_1151 : BitVec 32 := 16#32
  let v1196 : BitVec 32 := Scalar.remsi v1195 c16_i32_1151
  let c1_i32_1156 : BitVec 32 := 1#32
  let v1197 : BitVec 32 := Scalar.muli v1196 c1_i32_1156
  let v1198 : BitVec 32 := Scalar.addi c0_i32_1157 v1197
  v1198.toNat
def k0_dev44 (d0 : Dev nD) : Nat :=
  let c0_i32_1176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1169 : BitVec 32 := 14#32
  let v1218 : BitVec 32 := Scalar.addi v2 c14_i32_1169
  let c16_i32_1170 : BitVec 32 := 16#32
  let v1219 : BitVec 32 := Scalar.remsi v1218 c16_i32_1170
  let c1_i32_1175 : BitVec 32 := 1#32
  let v1220 : BitVec 32 := Scalar.muli v1219 c1_i32_1175
  let v1221 : BitVec 32 := Scalar.addi c0_i32_1176 v1220
  v1221.toNat
def k0_dev45 (d0 : Dev nD) : Nat :=
  let c0_i32_1195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1188 : BitVec 32 := 15#32
  let v1241 : BitVec 32 := Scalar.addi v2 c15_i32_1188
  let c16_i32_1189 : BitVec 32 := 16#32
  let v1242 : BitVec 32 := Scalar.remsi v1241 c16_i32_1189
  let c1_i32_1194 : BitVec 32 := 1#32
  let v1243 : BitVec 32 := Scalar.muli v1242 c1_i32_1194
  let v1244 : BitVec 32 := Scalar.addi c0_i32_1195 v1243
  v1244.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1253 : Index := Scalar.indexCast v2
  let c0_1200 : Index := 0#32
  let c0_1201 : Index := 0#32
  ![v1253.toNat, 0, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v1262 : BitVec 32 := Scalar.muli v2 c256_i32
  let v1263 : Index := Scalar.indexCast v1262
  let c0_1202 : Index := 0#32
  ![v1263.toNat, 0]
def k0_off4 (d0 : Dev nD) (c1_i32_1215 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1275 : BitVec 32 := Scalar.subi v2 c1_i32_1215
  let c16_i32_1216 : BitVec 32 := 16#32
  let v1276 : BitVec 32 := Scalar.addi v1275 c16_i32_1216
  let c16_i32_1217 : BitVec 32 := 16#32
  let v1277 : BitVec 32 := Scalar.remsi v1276 c16_i32_1217
  let c256_i32_1221 : BitVec 32 := 256#32
  let v1283 : BitVec 32 := Scalar.muli v1277 c256_i32_1221
  let v1284 : Index := Scalar.indexCast v1283
  let c0_1222 : Index := 0#32
  ![v1284.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 10
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x8192, .f32⟩
  | .local _ .vmem, ⟨0, _⟩ => ⟨S4096x8192, .f32⟩
  | .local _ .vmem, ⟨1, _⟩ => ⟨S1x1, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.IdealSteps.lean ====
/- The kernel's body as a few uniform steps: one signal, one transfer, one wait, one product of tiles, each written once
   for a symbolic round, and the body as their sequence. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-! ## Sequences of steps -/

/-- A step per list entry, in order, threading a state. -/
def foldL {E : Type → Type} {ι σ : Type} (f : ι → σ → Prog E σ) : List ι → σ → Prog E σ
  | [], s => pure s
  | a :: l, s => f a s >>= fun s' => foldL f l s'

/-- A step per list entry, in order. -/
def seqL {E : Type → Type} {ι : Type} (f : ι → Prog E PUnit) : List ι → Prog E PUnit
  | [] => pure ⟨⟩
  | a :: l => f a >>= fun _ => seqL f l

/-- The fifteen rounds. -/
def rounds : List (Fin 15) := [0, 1, 2, 3, 4, 5, 6, 7, 8, 9, 10, 11, 12, 13, 14]

/-- The programs of this kernel's body. -/
abbrev P (α : Type) : Type 1 := Prog (TpuEff nD τ sig (Elt F) Λ₀ .tc) α

/-! ## The buffers -/

abbrev xM : Memref sig .tc .vmem S256x4096 .f32 := Memref.whole cc0_stg0_0
abbrev wH : Memref sig .tc .hbm S4096x8192 .f32 := Memref.whole main_arg1
abbrev oM : Memref sig .tc .vmem S4096x512 .f32 := Memref.whole cc0_stg1_0
abbrev wB : Memref sig .tc .vmem S2x4096x512 .f32 := Memref.whole cc0_scratch0
abbrev yB : Memref sig .tc .vmem S16x256x512 .f32 := Memref.whole cc0_scratch1
abbrev aB : Memref sig .tc .vmem S16x8x128 .f32 := Memref.whole cc0_scratch2
abbrev qB : Memref sig .tc .vmem S16x256x512 .fp8e4m3 := Memref.whole cc0_scratch3
abbrev lB : Memref sig .tc .vmem S16x256x512 .fp8e4m3 := Memref.whole cc0_scratch4

theorem inbW : ∀ s : Fin 2, ∀ a, (![s.val, 0, 0] : Fin 3 → Nat) a + S1x4096x512.size a ≤ S2x4096x512.size a := by decide
theorem inbY : ∀ k : Fin 16, ∀ a, (![k.val, 0, 0] : Fin 3 → Nat) a + S1x256x512.size a ≤ S16x256x512.size a := by decide
theorem inbA : ∀ k : Fin 16, ∀ a, (![k.val, 0, 0] : Fin 3 → Nat) a + S1x8x128.size a ≤ S16x8x128.size a := by decide
theorem inbH : ∀ j : Fin 16, ∀ a, (![0, j.val * 512] : Fin 2 → Nat) a + S4096x512.size a ≤ S4096x8192.size a := by decide
theorem inbS : ∀ k : Fin 16, ∀ a, (![k.val] : Fin 1 → Nat) a + S1.size a ≤ S16.size a := by decide
theorem inbS2 : ∀ s : Fin 2, ∀ a, (![s.val] : Fin 1 → Nat) a + S1.size a ≤ S2.size a := by decide

abbrev rW (s : Fin 2) : Rect S2x4096x512 := Rect.unit (s := S2x4096x512) ![s.val, 0, 0] S1x4096x512.size (inbW s)
abbrev rY (k : Fin 16) : Rect S16x256x512 := Rect.unit (s := S16x256x512) ![k.val, 0, 0] S1x256x512.size (inbY k)
abbrev rA (k : Fin 16) : Rect S16x8x128 := Rect.unit (s := S16x8x128) ![k.val, 0, 0] S1x8x128.size (inbA k)
abbrev rH (j : Fin 16) : Rect S4096x8192 := Rect.unit (s := S4096x8192) ![0, j.val * 512] S4096x512.size (inbH j)

theorem packedY : ∀ k : Fin 16, (rY k).PackedRows (EltTy.packing .fp8e4m3) := by decide
theorem wordsY (k : Fin 16) : (rY k).WholeWords (EltTy.packing .fp8e4m3) := (packedY k).wholeWords

/-- Tile `j` of the weights, in HBM. -/
abbrev wT (j : Fin 16) : Memref sig .tc .hbm S4096x512 .f32 := wH.slice (rH j) (fun _ => rfl)
/-- Slot `s` of the weights' double buffer. -/
abbrev wS (s : Fin 2) : Memref sig .tc .vmem S4096x512 .f32 := (wB.slice (rW s) (fun _ => rfl)).squeeze S4096x512 squeezes_S1x4096x512_S4096x512
/-- Slot `k` of the maxima. -/
abbrev aS (k : Fin 16) : Memref sig .tc .vmem S8x128 .f32 := (aB.slice (rA k) (fun _ => rfl)).squeeze S8x128 squeezes_S1x8x128_S8x128
/-- Slot `k` of the quantised tiles to send. -/
abbrev qS (k : Fin 16) : Memref sig .tc .vmem S256x512 .fp8e4m3 := (qB.slice (rY k) (fun _ => rfl)).squeeze S256x512 squeezes_S1x256x512_S256x512
/-- Slot `k` of the quantised tiles received. -/
abbrev lS (k : Fin 16) : Memref sig .tc .vmem S256x512 .fp8e4m3 := (lB.slice (rY k) (fun _ => rfl)).squeeze S256x512 squeezes_S1x256x512_S256x512

theorem wxQ (k : Fin 16) : (qS k).view.WordExact := ((Memref.isWhole_whole cc0_scratch3).wordExact_slice rfl _ (wordsY k)).reshape _ _
theorem wxL (k : Fin 16) : (lS k).view.WordExact := ((Memref.isWhole_whole cc0_scratch4).wordExact_slice rfl _ (wordsY k)).reshape _ _

/-! ## The semaphores -/

abbrev barS : Sem sig := (SemArray.scalar (sig.barrier 0 rfl) : Sems sig S_).sem
abbrev at16 (a : DmaSems sig S16) (k : Fin 16) : DmaSem sig :=
  ((a.slice (Rect.unit (s := S16) ![k.val] S1.size (inbS k))).squeeze S_ squeezes_S1_S_ : DmaSems sig S_).sem
abbrev wSem (s : Fin 2) : DmaSem sig :=
  ((cc0_scratch5.slice (Rect.unit (s := S2) ![s.val] S1.size (inbS2 s))).squeeze S_ squeezes_S1_S_ : DmaSems sig S_).sem
abbrev asSem (k : Fin 16) : DmaSem sig := at16 cc0_scratch6 k
abbrev arSem (k : Fin 16) : DmaSem sig := at16 cc0_scratch7 k
abbrev tsSem (k : Fin 16) : DmaSem sig := at16 cc0_scratch8 k
abbrev trSem (k : Fin 16) : DmaSem sig := at16 cc0_scratch9 k

/-! ## The devices addressed -/

/-- The device `k` places up the ring, as the kernel computes it. -/
def devN (d0 : Dev nD) (k : BitVec 32) : Nat :=
  (Scalar.addi 0#32 (Scalar.muli (Scalar.remsi (Scalar.addi (Scalar.remsi (Scalar.divsi (Dev.word d0) 1#32) 16#32) k) 16#32) 1#32)).toNat
theorem devN_lt : ∀ d0 : Dev nD, ∀ r : Fin 15, devN d0 (BitVec.ofNat 32 (1 + r.val)) < nD := by decide +kernel
abbrev up (d0 : Dev nD) (r : Fin 15) : Dev nD := ⟨devN d0 (BitVec.ofNat 32 (1 + r.val)), devN_lt d0 r⟩

/-! ## The payloads -/

def prodV (x : Vec F S256x4096 .f32) (w : Vec F S1x4096x512 .f32) : FVec F S256x512 .f32 :=
  matmul dot_S256x4096_S4096x512_S256x512_1_0_0_1_n_n none (shapeCast S256x4096 x shapeCasts_S256x4096_S256x4096)
    (shapeCast S4096x512 w shapeCasts_S1x4096x512_S4096x512) (constant S256x512 .f32 0x00000000#32)
def tileV (x : Vec F S256x4096 .f32) (w : Vec F S1x4096x512 .f32) : FVec F S1x256x512 .f32 :=
  shapeCast S1x256x512 (prodV x w) shapeCasts_S256x512_S1x256x512
/-- The running maximum with one more tile. -/
def maxV (acc : F .f32) (x : Vec F S256x4096 .f32) (w : Vec F S1x4096x512 .f32) : F .f32 :=
  Scalar.maximumf acc (extractAt ![0, 0, 0] (shapeCast S1x1x1 (multiReduction .maximumf [1, 2] S1
    (shapeCast S1x256x512 (absf (prodV x w)) shapeCasts_S256x512_S1x256x512) 0xFF800000#32 reduces_S1x256x512_S1 (.inl rfl) rfl)
    shapeCasts_S1_S1x1x1) inpos_S1x1x1_p0_0_0)
def splatV (m : F .f32) : FVec F S1x8x128 .f32 := shapeCast S1x8x128 (broadcast S8x128 m) shapeCasts_S8x128_S1x8x128
/-- The scale, from all the maxima. -/
def scaleV (v : Vec F S16x8x128 .f32) : F .f32 :=
  Scalar.divf (extractAt ![0, 0, 0, 0] (shapeCast S1x1x1x1 (multiReduction .maximumf [1, 2, 3] S1
    (shapeCast S1x16x8x128 v shapeCasts_S16x8x128_S1x16x8x128) 0xFF800000#32 reduces_S1x16x8x128_S1 (.inl rfl) rfl)
    shapeCasts_S1_S1x1x1x1) inpos_S1x1x1x1_p0_0_0_0) (Scalar.ofBits .f32 0x43E00000#32)
def quantV (s : F .f32) (y : Vec F S1x256x512 .f32) : FVec F S256x512 .fp8e4m3 :=
  truncf .fp8e4m3 (divf (shapeCast S256x512 y shapeCasts_S1x256x512_S256x512) (broadcast S256x512 s)) bitsLt_fp8e4m3_f32
def quant1V (s : F .f32) (y : Vec F S1x256x512 .f32) : FVec F S1x256x512 .fp8e4m3 :=
  shapeCast S1x256x512 (quantV s y) shapeCasts_S256x512_S1x256x512
def dequantV (s : F .f32) (q : FVec F S256x512 .fp8e4m3) : FVec F S256x512 .f32 :=
  mulf (extf .f32 q bitsLt_fp8e4m3_f32) (broadcast S256x512 s)
def dequant1V (s : F .f32) (q : Vec F S1x256x512 .fp8e4m3) : FVec F S256x512 .f32 :=
  dequantV s (shapeCast S256x512 q shapeCasts_S1x256x512_S256x512)

/-! ## The steps -/

def signalP (c : Dev nD) (r : Fin 15) : P (F := F) PUnit := semSignalWord (up c r) barS 1#32

def wStartP (j : Fin 16) (s : Fin 2) : P (F := F) PUnit :=
  Prog.lift (.enqueueDma (wT j) (.here (wS s)) (.dma (wSem s)) (View.wordExact_bits rfl) ((View.wordExact_bits rfl).reshape _ _) ⟨Or.inl rfl, trivial⟩)

/-- Tile `j`'s product: its weights waited for, the tile stored, the running maximum returned. -/
def prodP (j : Fin 16) (s : Fin 2) (acc : F .f32) : P (F := F) (F .f32) := do
  Prog.lift (.waitDma2 (wSem s) (wT j) (wS s) (View.wordExact_bits rfl) ((View.wordExact_bits rfl).reshape _ _))
  let x : Vec F S256x4096 .f32 ← Prog.lift (.load xM (Rect.unit (s := S256x4096) ![0, 0] S256x4096.size inb_S256x4096_S256x4096_0_0).toLoadRect (View.loadsAt_vmem h_S256x4096))
  let w : Vec F S1x4096x512 .f32 ← Prog.lift (.load wB (rW s).toLoadRect (View.loadsAt_vmem h_S1x4096x512))
  let _ : Vec F S1x256x512 .f32 ← Prog.lift (.load yB (rY j).toLoadRect (View.loadsAt_vmem h_S1x256x512))
  Prog.lift (.store yB (rY j) (tileV x w) Finset.univ (View.stores_vmem_bits_univ h_S1x256x512 rfl) (.inl rfl))
  pure (maxV acc x w)

/-- The double buffer's slot of tile `j`. -/
def par (j : Fin 16) : Fin 2 := ⟨j.val % 2, Nat.mod_lt _ (by decide)⟩

def stepP (r : Fin 15) (acc : F .f32) : P (F := F) (F .f32) := do
  wStartP r.succ (par r.succ)
  prodP r.castSucc (par r.castSucc) acc

def aSetP (m : F .f32) : P (F := F) PUnit := do
  let _ : Vec F S1x8x128 .f32 ← Prog.lift (.load aB (rA 0).toLoadRect (View.loadsAt_vmem h_S1x8x128))
  Prog.lift (.store aB (rA 0) (splatV m) Finset.univ (View.stores_vmem_bits_univ h_S1x8x128 rfl) (.inl rfl))

def aSendP (c : Dev nD) (r : Fin 15) : P (F := F) PUnit :=
  Prog.lift (.enqueueDma (aS 0) (.remote (Dev.tc (up c r)) (aS r.succ) (.dma (asSem r.succ))) (.dma (arSem r.succ))
    ((View.wordExact_bits rfl).reshape _ _) ((View.wordExact_bits rfl).reshape _ _) ⟨⟨rfl, Or.inl rfl⟩, trivial⟩)
def aSentP (r : Fin 15) : P (F := F) PUnit :=
  Prog.lift (.waitDma2 (asSem r.succ) (aS r.succ) (aS 0) ((View.wordExact_bits rfl).reshape _ _) ((View.wordExact_bits rfl).reshape _ _))
def aRecvP (r : Fin 15) : P (F := F) PUnit :=
  Prog.lift (.waitDma2 (arSem r.succ) (aS 0) (aS r.succ) ((View.wordExact_bits rfl).reshape _ _) ((View.wordExact_bits rfl).reshape _ _))

def tSendP (c : Dev nD) (s : F .f32) (r : Fin 15) : P (F := F) PUnit := do
  let y : Vec F S1x256x512 .f32 ← Prog.lift (.load yB (Rect.unit (s := S16x256x512) (k0_off1 c (BitVec.ofNat 32 (1 + r.val))) S1x256x512.size (k0_off1_inb c r)).toLoadRect (View.loadsAt_vmem h_S1x256x512))
  let _ : Vec F S1x256x512 .fp8e4m3 ← Prog.lift (.load qB (rY r.succ).toLoadRect (View.loadsAt_vmem h_S1x256x512))
  Prog.lift (.store qB (rY r.succ) (quant1V s y) Finset.univ (View.stores_vmem h_S1x256x512 ((Memref.isWhole_whole cc0_scratch3).storeExact_slice rfl _ (packedY r.succ)) (fun _ => rfl)) (.inl rfl))
  Prog.lift (.enqueueDma (qS r.succ) (.remote (Dev.tc (up c r)) (lS r.succ) (.dma (tsSem r.succ))) (.dma (trSem r.succ))
    (wxQ r.succ) (wxL r.succ) ⟨⟨rfl, Or.inl rfl⟩, trivial⟩)

def ownP (c : Dev nD) (s : F .f32) : P (F := F) PUnit := do
  let y : Vec F S1x256x512 .f32 ← Prog.lift (.load yB (Rect.unit (s := S16x256x512) (k0_off2 c) S1x256x512.size (k0_off2_inb c)).toLoadRect (View.loadsAt_vmem h_S1x256x512))
  let _ : Vec F S256x512 .f32 ← Prog.lift (.load oM (Rect.unit (s := S4096x512) (k0_off3 c) S256x512.size (k0_off3_inb c)).toLoadRect (View.loadsAt_vmem h_S256x512))
  Prog.lift (.store oM (Rect.unit (s := S4096x512) (k0_off3 c) S256x512.size (k0_off3_inb c)) (dequantV s (quantV s y)) Finset.univ (View.stores_vmem_bits_univ h_S256x512 rfl) (.inl rfl))

def tRecvP (c : Dev nD) (s : F .f32) (r : Fin 15) : P (F := F) PUnit := do
  Prog.lift (.waitDma2 (trSem r.succ) (qS r.succ) (lS r.succ) (wxQ r.succ) (wxL r.succ))
  let q : Vec F S1x256x512 .fp8e4m3 ← Prog.lift (.load lB (rY r.succ).toLoadRect (View.loadsAt_vmem h_S1x256x512))
  let _ : Vec F S256x512 .f32 ← Prog.lift (.load oM (Rect.unit (s := S4096x512) (k0_off4 c (BitVec.ofNat 32 (1 + r.val))) S256x512.size (k0_off4_inb c r)).toLoadRect (View.loadsAt_vmem h_S256x512))
  Prog.lift (.store oM (Rect.unit (s := S4096x512) (k0_off4 c (BitVec.ofNat 32 (1 + r.val))) S256x512.size (k0_off4_inb c r)) (dequant1V s q) Finset.univ (View.stores_vmem_bits_univ h_S256x512 rfl) (.inl rfl))
def tSentP (r : Fin 15) : P (F := F) PUnit :=
  Prog.lift (.waitDma2 (tsSem r.succ) (lS r.succ) (qS r.succ) (wxL r.succ) (wxQ r.succ))

/-! ## The body -/

def bodyP : P (F := F) PUnit := do
  let c : Dev nD ← Prog.lift .deviceId
  seqL (signalP c) rounds
  semWaitWord barS 15#32
  wStartP 0 0
  let acc ← foldL stepP rounds (Scalar.ofBits .f32 0x00000000#32)
  let acc ← prodP 15 1 acc
  aSetP acc
  seqL (aSendP c) rounds
  seqL aSentP rounds
  seqL aRecvP rounds
  let v : Vec F S16x8x128 .f32 ← Prog.lift (.load aB (Rect.unit (s := S16x8x128) ![0, 0, 0] S16x8x128.size inb_S16x8x128_S16x8x128_0_0_0).toLoadRect (View.loadsAt_vmem h_S16x8x128))
  seqL (tSendP c (scaleV v)) rounds
  ownP c (scaleV v)
  seqL (tRecvP c (scaleV v)) rounds
  seqL tSentP rounds

/-- The printed body is the sequence of the steps. -/
theorem body_eq : cc0_body (F := F) xM (Memref.isWhole_whole _) wH (Memref.isWhole_whole _) oM (Memref.isWhole_whole _) wB (Memref.isWhole_whole _)
    yB (Memref.isWhole_whole _) aB (Memref.isWhole_whole _) qB (Memref.isWhole_whole _) lB (Memref.isWhole_whole _)
    cc0_scratch5 cc0_scratch6 cc0_scratch7 cc0_scratch8 cc0_scratch9 = bodyP := by
  chain_rfl

end Cert.KernelIdeal.Ring

end
-- ==== Proof.IdealProto.lean ====
/- The protocol of the kernel: its semaphore cells, what each round of each cell hands over, what each device owes, and
   the contents every buffer takes. -/
module

public import proofs.«01_k».proof.Proof.IdealSteps
public import Idealize.ShloMosaic.Lib.Transfers

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## The resources -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Around the ring -/

theorem up_val : ∀ (c : Dev nD) (r : Fin 15), (up c r).val = (c.val + r.val + 1) % 16 := by decide +kernel
set_option backward.proofsInPublic true in
/-- The device `k` places down the ring. -/
def src (c : Dev nD) (k : ℕ) : Dev nD := ⟨(c.val + 16 - k) % 16, Nat.mod_lt _ (by decide)⟩
theorem up_up_rev : ∀ (c : Dev nD) (r : Fin 15), up (up c r) r.rev = c := by decide +kernel
theorem up_rev_up (c : Dev nD) (r : Fin 15) : up (up c r.rev) r = c := by
  have h := up_up_rev c r.rev; rwa [Fin.rev_rev] at h
theorem src_up : ∀ (c : Dev nD) (r : Fin 15), src (up c r) r.succ.val = c := by decide +kernel
theorem src_eq_up : ∀ (c : Dev nD) (r : Fin 15), src c r.succ.val = up c r.rev := by decide +kernel
theorem src_zero : ∀ (c : Dev nD), src c 0 = c := by decide +kernel
/-- Each round is a permutation of the devices. -/
def rot (r : Fin 15) : Dev nD ≃ Dev nD := ⟨fun c => up c r, fun c => up c r.rev, fun c => up_up_rev c r, fun c => up_rev_up c r⟩

/-! ## The cells -/

/-- The kernel's own semaphores: two for the weights, and four arrays of sixteen. -/
abbrev KI : Type := Fin 2 ⊕ (Fin 4 × Fin 16)
abbrev arr (f : Fin 4) : DmaSems sig S16 := match f with
  | 0 => cc0_scratch6 | 1 => cc0_scratch7 | 2 => cc0_scratch8 | 3 => cc0_scratch9
abbrev osem : KI → SemLoc sig
  | .inl s => .dma (wSem s)
  | .inr (f, k) => .dma (at16 (arr f) k)
/-- All of them, and the barrier. -/
abbrev csem : Option KI → SemLoc sig
  | none => .reg barS
  | some x => osem x
abbrev kcell (c : Dev nD) (x : Option KI) : GSem nD τ sig := ((c : Thread nD τ), csem x)

abbrev barC (c : Dev nD) : GSem nD τ sig := ((c : Thread nD τ), .reg barS)
abbrev wC (c : Dev nD) (s : Fin 2) : GSem nD τ sig := ((c : Thread nD τ), .dma (wSem s))
abbrev asC (c : Dev nD) (k : Fin 16) : GSem nD τ sig := ((c : Thread nD τ), .dma (asSem k))
abbrev arC (c : Dev nD) (k : Fin 16) : GSem nD τ sig := ((c : Thread nD τ), .dma (arSem k))
abbrev tsC (c : Dev nD) (k : Fin 16) : GSem nD τ sig := ((c : Thread nD τ), .dma (tsSem k))
abbrev trC (c : Dev nD) (k : Fin 16) : GSem nD τ sig := ((c : Thread nD τ), .dma (trSem k))

/-- Which of the cells a semaphore is. -/
def kindOf : SemLoc sig → Option (Option KI)
  | .reg _ => some none
  | .dma q => if q.val < 2 then none else if q.val < 4 then some (some (.inl (Fin.ofNat 2 (q.val - 2))))
      else some (some (.inr (Fin.ofNat 4 ((q.val - 4) / 16), Fin.ofNat 16 ((q.val - 4) % 16))))

theorem kind_osem : ∀ x : KI, kindOf (osem x) = some (some x) := by decide +kernel
theorem kind_csem (x : Option KI) : kindOf (csem x) = some x := by
  cases x with
  | none => rfl
  | some x => exact kind_osem x
theorem csem_inj : Function.Injective csem := fun x y h => Option.some.inj (by rw [← kind_csem x, ← kind_csem y, h])

/-! ## The contents -/

set_option backward.proofsInPublic true in
/-- The tile a number names. -/
@[irreducible] def ix16 (n : ℕ) : Fin 16 := ⟨n % 16, Nat.mod_lt _ (by decide)⟩
theorem ix16_val (n : ℕ) : (ix16 n).val = n % 16 := by unfold ix16; rfl
theorem ix16_eq (j : Fin 16) : ix16 j.val = j := Fin.ext (by rw [ix16_val, Nat.mod_eq_of_lt j.isLt])

/-- A device's block of `x`. -/
def xstg (c : Dev nD) : (cc0_stg0_0 : Ref sig .tc).ty.Contents (Elt F) :=
  (win0_0.blk (0 : Fin 1)).view.read (Elt F) ((s₀ m ρ).mem ((c : Thread nD τ).loc main_arg0))
/-- Tile `j` of its weights. -/
def wt (c : Dev nD) (j : Fin 16) : Vec F S4096x512 .f32 := (wT j).view.read (Elt F) ((s₀ m ρ).mem ((c : Thread nD τ).loc main_arg1))
theorem scW : S4096x512.ShapeCasts S1x4096x512 := by decide
def wv (c : Dev nD) (j : Fin 16) : Vec F S1x4096x512 .f32 := shapeCast S1x4096x512 (wt m ρ c j) scW
/-- Tile `j` of its product. -/
def yv (c : Dev nD) (j : Fin 16) : Vec F S1x256x512 .f32 := tileV (xstg m ρ c) (wv m ρ c j)
/-- Its running maximum over the first `n` tiles. -/
def accN (c : Dev nD) : ℕ → F .f32
  | 0 => Scalar.ofBits .f32 0x00000000#32
  | n + 1 => maxV (accN c n) (xstg m ρ c) (wv m ρ c (ix16 n))
def lmax (c : Dev nD) : F .f32 := accN m ρ c 16
/-- The maxima device `c` gathers: slot `k` from the device `k` places down. -/
def AM (c : Dev nD) : Vec F S16x8x128 .f32 := fun i => lmax m ρ (src c (i 0).val)
def scl (c : Dev nD) : F .f32 := scaleV (AM m ρ c)
/-- The tile `b` sends `c`, quantised at `b`'s scale. -/
def qv (b c : Dev nD) : FVec F S256x512 .fp8e4m3 := quantV (scl m ρ b) (yv m ρ b c)
/-- Row block `b` of `c`'s result. -/
def ov (c b : Dev nD) : FVec F S256x512 .f32 := dequantV (scl m ρ c) (qv m ρ b c)

/-! ## Pieces of memory -/

abbrev w1 (c : Dev nD) : Buf (Elt F) ((c : Thread nD τ).loc main_arg1) := (s₀ m ρ).mem ((c : Thread nD τ).loc main_arg1)

section Pieces
variable (c : Dev nD)

/-- A piece whose contents are of no interest. -/
def hole {sp : Space} {s : Shape} {e : EltTy} (M : Memref sig .tc sp s e) : sProp 𝕄 :=
  iprop(∃ f, M.view.loc (c : Thread nD τ) ↦[M.view.set]{fullShare} f)
/-- A piece that reads `X`. -/
def full {sp : Space} {s : Shape} {e : EltTy} (M : Memref sig .tc sp s e) (X : s.Idx → Elt F e) : sProp 𝕄 :=
  owns (c : Thread nD τ) M fullShare X
/-- Tile `j` of the weights in HBM. -/
def wTile (j : Fin 16) : sProp 𝕄 := (wT j).view.loc (c : Thread nD τ) ↦[(wT j).view.set]{fullShare} (w1 m ρ c)
/-- Slot `k` of the maxima, a share of it. -/
def aPts (k : Fin 16) (q : PosShare TreeShare) : sProp 𝕄 := (aS k).view.loc (c : Thread nD τ) ↦[(aS k).view.set]{q} (AM m ρ c)

instance hole_storable {sp : Space} {s : Shape} {e : EltTy} (M : Memref sig .tc sp s e) :
    BI.Storable (upEmb : UEmb _ 𝕄) (hole (F := F) c M) := by unfold hole; infer_instance
instance full_storable {sp : Space} {s : Shape} {e : EltTy} (M : Memref sig .tc sp s e) (X : s.Idx → Elt F e) :
    BI.Storable (upEmb : UEmb _ 𝕄) (full (F := F) c M X) := by unfold full; infer_instance
instance wTile_storable (j : Fin 16) : BI.Storable (upEmb : UEmb _ 𝕄) (wTile (F := F) m ρ c j) := by unfold wTile; infer_instance
instance aPts_storable (k : Fin 16) (q : PosShare TreeShare) : BI.Storable (upEmb : UEmb _ 𝕄) (aPts (F := F) m ρ c k q) := by
  unfold aPts; infer_instance

end Pieces

/-! ## The schedule -/

@[irreducible] def NW : ℕ := (wS 0).view.dmaCredit
@[irreducible] def NA : ℕ := (aS 0).view.dmaCredit
@[irreducible] def NT : ℕ := (lS 0).view.dmaCredit
theorem NW_pos : 0 < NW := by unfold NW; exact View.dmaCredit_pos _ (by decide)
theorem NA_pos : 0 < NA := by unfold NA; exact View.dmaCredit_pos _ (by decide)
theorem NT_pos : 0 < NT := by unfold NT; exact View.dmaCredit_pos _ (by decide)
theorem NW_eq (s : Fin 2) : (wS s).view.dmaCredit = NW := by unfold NW; rfl
theorem NA_eq (k : Fin 16) : (aS k).view.dmaCredit = NA := by unfold NA; rfl
theorem NTl_eq (k : Fin 16) : (lS k).view.dmaCredit = NT := by unfold NT; rfl
theorem NTq_eq (k : Fin 16) : (qS k).view.dmaCredit = NT := by unfold NT; rfl

def barPay (c : Dev nD) (r : Fin 15) : sProp 𝕄 :=
  iprop(hole (F := F) (up c r.rev) (aS r.rev.succ) ∗ hole (F := F) (up c r.rev) (lS r.rev.succ))
def wPay (c : Dev nD) (s : Fin 2) (r : ℕ) : sProp 𝕄 :=
  iprop(full c (wS s) (wt m ρ c (ix16 (2 * r + s.val))) ∗ wTile m ρ c (ix16 (2 * r + s.val)))
def xPay (c : Dev nD) (f : Fin 4) (k : Fin 16) : sProp 𝕄 := match f with
  | 0 => aPts m ρ c 0 (shareTok fullShare 16 k)
  | 1 => aPts m ρ c k fullShare
  | 2 => hole c (qS k)
  | 3 => full c (lS k) (qv m ρ (src c k.val) c)

instance barPay_storable (c : Dev nD) (r) : BI.Storable (upEmb : UEmb _ 𝕄) (barPay (F := F) c r) := by unfold barPay; infer_instance
instance wPay_storable (c : Dev nD) (s r) : BI.Storable (upEmb : UEmb _ 𝕄) (wPay (F := F) m ρ c s r) := by unfold wPay; infer_instance
instance xPay_storable (c : Dev nD) (f k) : BI.Storable (upEmb : UEmb _ 𝕄) (xPay (F := F) m ρ c f k) := by
  unfold xPay; split <;> infer_instance

def dutiesK : Option (Option KI) → ℕ → Finset (Fin 15)
  | some none, r => if r = 0 then Finset.univ else ∅
  | some (some (.inl _)), r => if r < 8 then {0} else ∅
  | some (some (.inr (_, k))), r => if r = 0 ∧ k ≠ 0 then {0} else ∅
  | none, _ => ∅
def amountK : Option (Option KI) → ℕ
  | some (some (.inl _)) => NW
  | some (some (.inr (f, _))) => if f.val < 2 then NA else NT
  | _ => 1
def payK (c : Dev nD) : Option (Option KI) → ℕ → Fin 15 → sProp 𝕄
  | some none, _, d => barPay c d
  | some (some (.inl s)), r, _ => wPay m ρ c s r
  | some (some (.inr (f, k))), _, _ => xPay m ρ c f k
  | none, _, _ => iprop(emp)

theorem amountK_pos (x : Option (Option KI)) : 0 < amountK x := by
  rcases x with _ | _ | s | ⟨f, k⟩
  · exact Nat.one_pos
  · exact Nat.one_pos
  · exact NW_pos
  · unfold amountK; dsimp only; split
    · exact NA_pos
    · exact NT_pos

def Rd : Rounds.Schedule (GSem nD τ sig) (Fin 15) 𝕄 where
  duties g r := dutiesK (kindOf g.2) r
  unitless _ := False
  amount g _ _ := amountK (kindOf g.2)
  payload g r d := payK m ρ g.1.1 (kindOf g.2) r d
  amount_pos g _ _ _ := amountK_pos _

instance Rd_payload_storable (g : GSem nD τ sig) (r : ℕ) (d : Fin 15) :
    BI.Storable (upEmb : UEmb _ 𝕄) ((Rd (F := F) m ρ).payload g r d) := by
  show BI.Storable upEmb (payK m ρ g.1.1 (kindOf g.2) r d)
  generalize kindOf g.2 = x
  rcases x with _ | _ | s | ⟨f, k⟩ <;> unfold payK <;> dsimp only <;> infer_instance

section Sched
variable (c : Dev nD)

theorem duties_at (x : Option KI) (r : ℕ) : (Rd (F := F) m ρ).duties (kcell c x) r = dutiesK (some x) r := by
  show dutiesK (kindOf (csem x)) r = _; rw [kind_csem]
theorem amount_at (x : Option KI) (r : ℕ) (d : Fin 15) : (Rd (F := F) m ρ).amount (kcell c x) r d = amountK (some x) := by
  show amountK (kindOf (csem x)) = _; rw [kind_csem]
theorem payload_at (x : Option KI) (r : ℕ) (d : Fin 15) : (Rd (F := F) m ρ).payload (kcell c x) r d = payK m ρ c (some x) r d := by
  show payK m ρ c (kindOf (csem x)) r d = _; rw [kind_csem]

theorem duties_bar : (Rd (F := F) m ρ).duties (barC c) 0 = Finset.univ := duties_at m ρ c none 0
theorem duties_w (s : Fin 2) {r : ℕ} (h : r < 8) : (Rd (F := F) m ρ).duties (wC c s) r = {0} :=
  (duties_at m ρ c (some (.inl s)) r).trans (if_pos h)
theorem duties_x (f : Fin 4) (r : Fin 15) : (Rd (F := F) m ρ).duties (kcell c (some (.inr (f, r.succ)))) 0 = {0} :=
  (duties_at m ρ c (some (.inr (f, r.succ))) 0).trans (by unfold dutiesK; exact if_pos ⟨rfl, Fin.succ_ne_zero r⟩)

theorem expect_bar : (Rd (F := F) m ρ).expect (barC c) 0 = 15 := by
  unfold Schedule.expect Schedule.amountOf
  rw [duties_bar, Finset.sum_congr rfl fun d _ => amount_at m ρ c none 0 d, Finset.sum_const, Finset.card_univ, Fintype.card_fin, smul_eq_mul]
  rfl
theorem expect_w (s : Fin 2) {r : ℕ} (h : r < 8) : (Rd (F := F) m ρ).expect (wC c s) r = NW := by
  unfold Schedule.expect Schedule.amountOf; rw [duties_w m ρ c s h, Finset.sum_singleton]; exact amount_at m ρ c (some (.inl s)) r 0
theorem expect_x (f : Fin 4) (r : Fin 15) : (Rd (F := F) m ρ).expect (kcell c (some (.inr (f, r.succ)))) 0 = if f.val < 2 then NA else NT := by
  unfold Schedule.expect Schedule.amountOf; rw [duties_x, Finset.sum_singleton]; exact amount_at m ρ c (some (.inr (f, r.succ))) 0 0

theorem rest_bar : bigSep ((Rd (F := F) m ρ).duties (barC c) 0 \ ∅) (fun d => (Rd (F := F) m ρ).payload (barC c) 0 d)
    = bigSep Finset.univ fun r : Fin 15 => barPay c r := by
  rw [Finset.sdiff_empty, duties_bar]; exact bigSep_congr fun d _ => payload_at m ρ c none 0 d
theorem rest_w (s : Fin 2) {r : ℕ} (h : r < 8) : bigSep ((Rd (F := F) m ρ).duties (wC c s) r \ ∅) (fun d => (Rd (F := F) m ρ).payload (wC c s) r d)
    = wPay m ρ c s r := by
  rw [Finset.sdiff_empty, duties_w m ρ c s h, bigSep_singleton]; exact payload_at m ρ c (some (.inl s)) r 0
theorem rest_x (f : Fin 4) (r : Fin 15) : bigSep ((Rd (F := F) m ρ).duties (kcell c (some (.inr (f, r.succ)))) 0 \ ∅)
      (fun d => (Rd (F := F) m ρ).payload (kcell c (some (.inr (f, r.succ)))) 0 d) = xPay m ρ c f r.succ := by
  rw [Finset.sdiff_empty, duties_x, bigSep_singleton]; exact payload_at m ρ c (some (.inr (f, r.succ))) 0 0

end Sched

/-- The round each cell ends at. -/
def endR : Option KI → ℕ
  | none => 1
  | some (.inl _) => 8
  | some (.inr (_, k)) => if k = 0 then 0 else 1
theorem duties_end (c : Dev nD) (x : Option KI) (r : ℕ) (h : endR x ≤ r) : (Rd (F := F) m ρ).duties (kcell c x) r = ∅ := by
  rw [duties_at]
  rcases x with _ | s | ⟨f, k⟩
  · exact if_neg fun h' => by simp only [endR] at h; omega
  · exact if_neg fun h' => by simp only [endR] at h; omega
  · refine if_neg fun h' => ?_
    simp only [endR, if_neg h'.2] at h; omega

/-! ## What is owed -/

/-- What is owed to the cells `g` from round `k` on, `n` units each. -/
def ow (g : Fin 15 → GSem nD τ sig) (n k : ℕ) : CellTallies nD τ sig Unit :=
  ∑ r ∈ (Finset.univ : Finset (Fin 15)).filter (fun r => k ≤ r.val), tallyAt (g r) () n
theorem ow_succ (g : Fin 15 → GSem nD τ sig) (n : ℕ) (r : Fin 15) : ow g n r.val = ow g n (r.val + 1) + tallyAt (g r) () n := by
  unfold ow
  rw [show (Finset.univ : Finset (Fin 15)).filter (fun r' => r.val ≤ r'.val)
      = insert r ((Finset.univ : Finset (Fin 15)).filter (fun r' => r.val + 1 ≤ r'.val)) by
    ext r'; simp only [Finset.mem_filter, Finset.mem_univ, true_and, Finset.mem_insert, Fin.ext_iff]; omega]
  rw [Finset.sum_insert (by simp), add_comm]
theorem ow_end (g : Fin 15 → GSem nD τ sig) (n : ℕ) : ow g n 15 = 0 := by
  unfold ow
  rw [Finset.filter_false_of_mem fun r _ => by have := r.isLt; omega, Finset.sum_empty]
theorem ow_pos {g : Fin 15 → GSem nD τ sig} {n k : ℕ} {q : GSem nD τ sig} {u : Unit} (h : 0 < ow g n k q u) : ∃ r, q = g r := by
  by_contra hn
  rw [not_exists] at hn
  unfold ow at h
  rw [Finset.sum_apply, Finsupp.finset_sum_apply, Finset.sum_eq_zero fun r _ => by
    rw [tallyAt_apply, if_neg fun h' => hn r h'.1]] at h
  exact Nat.lt_irrefl 0 h

abbrev gB (c : Dev nD) : Fin 15 → GSem nD τ sig := fun r => barC (up c r)
abbrev gA (c : Dev nD) : Fin 15 → GSem nD τ sig := fun r => arC (up c r) r.succ
abbrev gT (c : Dev nD) : Fin 15 → GSem nD τ sig := fun r => trC (up c r) r.succ
/-- What a device owes with `b` signals made and `a` maxima and `t` tiles sent. -/
def oweD (c : Dev nD) (b a t : ℕ) : CellTallies nD τ sig Unit := ow (gA c) NA a + ow (gT c) NT t + ow (gB c) 1 b

theorem oweD_bar (c : Dev nD) (r : Fin 15) (a t : ℕ) : oweD c r.val a t = oweD c (r.val + 1) a t + tallyAt (barC (up c r)) () 1 := by
  unfold oweD; rw [ow_succ (gB c) 1 r, ← add_assoc]
theorem oweD_ar (c : Dev nD) (r : Fin 15) (b t : ℕ) : oweD c b r.val t = oweD c b (r.val + 1) t + tallyAt (arC (up c r) r.succ) () NA := by
  unfold oweD; rw [ow_succ (gA c) NA r, add_right_comm _ (tallyAt _ _ _), add_right_comm _ (tallyAt _ _ _)]
theorem oweD_tr (c : Dev nD) (r : Fin 15) (b a : ℕ) : oweD c b a r.val = oweD c b a (r.val + 1) + tallyAt (trC (up c r) r.succ) () NT := by
  unfold oweD; rw [ow_succ (gT c) NT r, ← add_assoc, add_right_comm _ (tallyAt _ _ _)]
theorem oweD_end (c : Dev nD) : oweD c 15 15 15 = 0 := by
  unfold oweD; rw [ow_end, ow_end, ow_end, add_zero, add_zero]

/-- What is still owed is owed to a barrier, with fewer than fifteen signals made, to a receive cell of the maxima, with
    fewer than fifteen sent, or to one of the tiles. -/
theorem oweD_pos {c : Dev nD} {b a t : ℕ} {q : GSem nD τ sig} {u : Unit} (h : 0 < oweD c b a t q u) :
    (b ≠ 15 ∧ ∃ r, q = gB c r) ∨ (a ≠ 15 ∧ ∃ r, q = gA c r) ∨ ∃ r, q = gT c r := by
  unfold oweD at h
  rw [Pi.add_apply, Finsupp.add_apply, Pi.add_apply, Finsupp.add_apply] at h
  by_cases h1 : 0 < ow (gB c) 1 b q u
  · refine .inl ⟨fun hb => ?_, ow_pos h1⟩
    rw [hb, ow_end] at h1; exact Nat.lt_irrefl 0 h1
  by_cases h2 : 0 < ow (gA c) NA a q u
  · refine .inr (.inl ⟨fun hb => ?_, ow_pos h2⟩)
    rw [hb, ow_end] at h2; exact Nat.lt_irrefl 0 h2
  exact .inr (.inr (ow_pos (n := NT) (k := t) (u := u) (by omega)))

def L (g : GSem nD τ sig) : Finset Unit := if g.1.2 = .tc then {()} else ∅
def lvK : Option (Option KI) → ℕ
  | some none => 1
  | some (some (.inr (f, _))) => if f = 1 then 2 else if f = 3 then 3 else 0
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := rfl
theorem lv_x (c : Dev nD) (f : Fin 4) (k : Fin 16) : lv (kcell c (some (.inr (f, k)))) () = if f = 1 then 2 else if f = 3 then 3 else 0 := by
  show lvK (kindOf (csem (some (.inr (f, k))))) = _; rw [kind_csem]; rfl

/-- A wait at a level below everything owed. -/
theorem mayWait_of (c : Dev nD) (sm : SemLoc sig) (b a t n : ℕ) (hn : lvK (kindOf sm) ≤ n)
    (hb : b ≠ 15 → n < 1) (ha : a ≠ 15 → n < 2) (ht : n < 3) :
    (levAts L lv : sProp 𝕄) ⊢ MayWait (c : Thread nD τ) sm () (oweD c b a t) :=
  MayOwe.of_cut (L := L) (lev := lv) n (fun p hp => by rw [Finset.mem_singleton.mp hp, L_tc]; exact Finset.mem_singleton_self _)
    (fun g u hg => by
      rcases oweD_pos hg with ⟨_, r, rfl⟩ | ⟨_, r, rfl⟩ | ⟨r, rfl⟩ <;> rw [L_tc] <;> exact Finset.mem_singleton_self _)
    (fun p hp => by rw [Finset.mem_singleton.mp hp]; exact hn)
    (fun g u hg => by
      rcases oweD_pos hg with ⟨h, r, rfl⟩ | ⟨h, r, rfl⟩ | ⟨r, rfl⟩
      · exact hb h
      · rw [show lv (gA c r) u = 2 from lv_x (up c r) 1 r.succ]; exact ha h
      · rw [show lv (gT c r) u = 3 from lv_x (up c r) 3 r.succ]; exact ht)

end Cert.KernelIdeal.Ring

end
-- ==== Proof.IdealRules.lean ====
/- What each step of the kernel does to the protocol: a triple for a signal, a wait, a transfer, a product of tiles, each
   at a symbolic device and round, and the rule that runs a step over the fifteen rounds. -/
module

public import proofs.«01_k».proof.Proof.IdealProto
public import Idealize.ShloMosaic.Lib.Pipeline.BigSepL

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

abbrev 𝒱₀ : Variants := Variants.none
abbrev WP {α : Type} (c : Dev nD) (p : P (F := F) α) (Q : α → sProp 𝕄) : sProp 𝕄 :=
  wp frame (wpE (defs₀ (F := F)) 𝒱₀ (c : Thread nD τ) none) Set.univ p Q

theorem WP_wand {α : Type} (c : Dev nD) {p : P (F := F) α} {Q Q' : α → sProp 𝕄} :
    WP c p Q ⊢ iprop((∀ a, Q a -∗ Q' a) -∗ WP c p Q') := wp_wand frame (wpE (defs₀ (F := F)) 𝒱₀ (c : Thread nD τ) none) Set.univ

/-! ## Running a step over the rounds -/

/-- The list counts up from `k`. -/
def Runs : ℕ → List (Fin 15) → Prop
  | _, [] => True
  | k, a :: l => a.val = k ∧ Runs (k + 1) l
theorem runs_rounds : Runs 0 rounds := by simp [Runs, rounds]

section Loop
variable {σ : Type} (c : Dev nD) (f : Fin 15 → σ → P (F := F) σ)

theorem wp_foldL_list (R : ℕ → σ → sProp 𝕄) (A B : Fin 15 → sProp 𝕄)
    (h : ∀ r s, iprop(R r.val s ∗ A r) ⊢ WP c (f r s) (fun s' => iprop(R (r.val + 1) s' ∗ B r))) (l : List (Fin 15)) : ∀ (k : ℕ) (s : σ), Runs k l →
    iprop(R k s ∗ bigSepL l A) ⊢ WP c (foldL f l s) (fun s' => iprop(R (k + l.length) s' ∗ bigSepL l B)) := by
  induction l with
  | nil =>
    intro k s _
    rw [foldL, bigSepL_nil]; unfold WP
    iintro ⟨H, _⟩
    simp only [Prog.pure_eq_ret, wp_ret]
    imodintro
    isplitl [H]; · iexact H
    rw [bigSepL_nil]; iempintro
  | cons a l ih =>
    intro k s hr
    obtain ⟨rfl, hr⟩ := hr
    rw [foldL]; unfold WP; rw [wp_bind, bigSepL_cons', bigSepL_cons']
    iintro ⟨HR, HA, HL⟩
    iapply (WP_wand c (Q := fun s' => iprop(R (a.val + 1) s' ∗ B a))) $$ [HR HA]
    · iapply (h a s)
      isplitl [HR] <;> iassumption
    iintro %s' ⟨HR, HB⟩
    iapply (WP_wand c (Q := fun s' => iprop(R (a.val + 1 + l.length) s' ∗ bigSepL l B))) $$ [HR HL]
    · iapply (ih (a.val + 1) s' hr)
      isplitl [HR] <;> iassumption
    iintro %s'' ⟨HR, HL⟩
    rw [List.length_cons, show a.val + (l.length + 1) = a.val + 1 + l.length by omega]
    isplitl [HR]; · iexact HR
    isplitl [HB] <;> iassumption

theorem bigSep_rounds (Φ : Fin 15 → sProp 𝕄) : bigSep Finset.univ Φ = bigSepL rounds Φ :=
  bigSep_univ_eq_bigSepL rounds (by decide) (by decide) Φ

/-- A step over the rounds, threading a state. -/
theorem wp_foldL (R : ℕ → σ → sProp 𝕄) (A B : Fin 15 → sProp 𝕄)
    (h : ∀ r s, iprop(R r.val s ∗ A r) ⊢ WP c (f r s) (fun s' => iprop(R (r.val + 1) s' ∗ B r))) (s : σ) : iprop(R 0 s ∗ bigSep Finset.univ A) ⊢ WP c (foldL f rounds s) (fun s' => iprop(R 15 s' ∗ bigSep Finset.univ B)) := by
  rw [bigSep_rounds, bigSep_rounds]
  exact wp_foldL_list c f R A B h rounds 0 s runs_rounds
end Loop

theorem seqL_eq {c : Dev nD} (f : Fin 15 → P (F := F) PUnit) (l : List (Fin 15)) : seqL f l = foldL (fun r _ => f r) l ⟨⟩ := by
  induction l with
  | nil => rfl
  | cons a l ih => rw [seqL, foldL, ih]

/-- A step over the rounds. -/
theorem wp_seqL (c : Dev nD) (f : Fin 15 → P (F := F) PUnit) (R : ℕ → sProp 𝕄) (A B : Fin 15 → sProp 𝕄)
    (h : ∀ r, iprop(R r.val ∗ A r) ⊢ WP c (f r) (fun _ => iprop(R (r.val + 1) ∗ B r))) :
    iprop(R 0 ∗ bigSep Finset.univ A) ⊢ WP c (seqL f rounds) (fun _ => iprop(R 15 ∗ bigSep Finset.univ B)) := by
  rw [seqL_eq (c := c)]
  exact wp_foldL c (fun r _ => f r) (fun k _ => R k) A B (fun r _ => h r) ⟨⟩

/-! ## The standing facts -/

variable (m : (ℓ : Loc nD τ sig) → Buf (Elt F) ℓ) (ρ : Dev nD → PrngReg) (K : Dev nD × Option KI → ℕ)

/-- Every cell's invariant, that every cell has reached round 0, and the levels. -/
def recs : sProp 𝕄 :=
  iprop((bigSep Finset.univ fun ck : Dev nD × Option KI => cellInv ER (Rd m ρ) (K ck) (kcell ck.1 ck.2))
    ∗ (bigSep Finset.univ fun ck : Dev nD × Option KI => reached ER (kcell ck.1 ck.2) 0) ∗ levAts L lv)
instance recs_persistent : BI.Persistent (recs m ρ K) := by unfold recs; infer_instance

theorem inv_at (c : Dev nD) (x : Option KI) : recs m ρ K ⊢ cellInv ER (Rd m ρ) (K (c, x)) (kcell c x) := by
  unfold recs
  exact sep_elim_left.trans (bigSep_elim (Finset.mem_univ (c, x)))
theorem reached_at (c : Dev nD) (x : Option KI) : recs m ρ K ⊢ reached ER (kcell c x) 0 := by
  unfold recs
  exact sep_elim_right.trans (sep_elim_left.trans (bigSep_elim (Finset.mem_univ (c, x))))
theorem lev_at : recs m ρ K ⊢ levAts L lv := by unfold recs; iintro ⟨-, -, H⟩; iexact H

/-- What a device owes, under whatever it has waited for. -/
def ows (c : Dev nD) (b a t : ℕ) : sProp 𝕄 := iprop(∃ W, owes (c : Thread nD τ) (oweD c b a t) W)

/-! ## The barrier -/

theorem signal_step (c : Dev nD) (r : Fin 15) :
    iprop((recs m ρ K ∗ ows c r.val 0 0) ∗ dutyTok ER (barC (up c r)) 0 r ∗ hole (F := F) c (aS r.rev.succ) ∗ hole (F := F) c (lS r.rev.succ))
      ⊢ WP c (signalP c r) (fun _ => iprop((recs m ρ K ∗ ows c (r.val + 1) 0 0) ∗ emp)) := by
  unfold WP signalP ows
  simp only [semSignalWord, Prog.lift]
  iintro ⟨⟨#HR, ⟨%W, HO⟩⟩, Ht, Ha, Hl⟩
  iapply (Rounds.wp_signal 𝒱₀ ER (Rd m ρ) (c : Thread nD τ) none (dst := (up c r : Thread nD τ)) (κ := K (up c r, none))
      (d := r) (by rw [duties_bar]; exact Finset.mem_univ _) ((amount_at m ρ (up c r) none 0 r).trans (by decide)) () (oweD c (r.val + 1) 0 0) (oweD_bar c r 0 0))
    $$ [HO Ht Ha Hl]
  · isplitr; · iapply (inv_at m ρ K (up c r) none); iexact HR
    isplitl [HO]; · iexact HO
    isplitl [Ht]; · iexact Ht
    isplitl
    · rw [payload_at m ρ (up c r) none 0 r]; unfold payK barPay; dsimp only; rw [up_up_rev]
      isplitl [Ha] <;> iassumption
    iapply (reached_at m ρ K (up c r) none); iexact HR
  iintro HO
  rw [wp_ret]; imodintro
  isplitl
  · isplitr; · iexact HR
    iexists W; iexact HO
  · iempintro

theorem bar_step (c : Dev nD) :
    iprop((recs m ρ K ∗ ows c 15 0 0) ∗ cred (tallyAt (barC c) () 15) ∗ atPos ER (barC c) 0 ∅ 0)
      ⊢ WP c (semWaitWord barS 15#32) (fun _ => iprop((recs m ρ K ∗ ows c 15 0 0) ∗ atPos ER (barC c) 1 ∅ 0 ∗ bigSep Finset.univ fun r => barPay (F := F) c r)) := by
  unfold WP ows
  simp only [semWaitWord, Prog.lift]
  iintro ⟨⟨#HR, ⟨%W, HO⟩⟩, Hc, Hat⟩
  iapply (Rounds.wp_wait_rest_token 𝒱₀ ER (Rd m ρ) (c : Thread nD τ) none (κ := K (c, none))
      (wpE_semWait_eq 𝒱₀ (c : Thread nD τ) none Set.univ) (Set.mem_univ _) () (O := oweD c 15 0 0) (W := W) (R := 0) (m := 0) (T := ∅)
      (by rw [expect_bar]; decide)) $$ [Hc HO Hat]
  · isplitr; · iapply (inv_at m ρ K c none); iexact HR
    isplitl [Hc]; · iexact Hc
    isplitl [HO]; · iexact HO
    isplitr
    · iapply (mayWait_of c (.reg barS) 15 0 0 1 (le_refl _) (fun h => absurd rfl h) (fun _ => by decide) (by decide))
      iapply (lev_at m ρ K); iexact HR
    iexact Hat
  iintro ⟨HO, Hat, -, Hp⟩
  rw [wp_ret]; imodintro
  isplitl [HO]
  · isplitr; · iexact HR
    iexists _; iexact HO
  isplitl [Hat]; · iexact Hat
  rw [← rest_bar m ρ c]; iexact Hp

/-! ## The waits of the transfers between devices -/

theorem xwait_step (c : Dev nD) (f : Fin 4) (r : Fin 15) (b a t n : ℕ)
    {sp sp' : Space} {s s' : Shape} {e e' : EltTy} {A : Memref sig .tc sp' s' e'} {D : Memref sig .tc sp s e}
    {hA : A.view.WordExact} {hD : D.view.WordExact} (hN : D.view.dmaCredit = if f.val < 2 then NA else NT)
    (hn : (if f = 1 then 2 else if f = 3 then 3 else 0) ≤ n) (hb : b ≠ 15 → n < 1) (ha : a ≠ 15 → n < 2) (ht : n < 3 ∨ t = 15 ∧ a = 15 ∧ b = 15) :
    iprop((recs m ρ K ∗ ows c b a t) ∗ cred (tallyAt (kcell c (some (.inr (f, r.succ)))) () (if f.val < 2 then NA else NT))
        ∗ atPos ER (kcell c (some (.inr (f, r.succ)))) 0 ∅ 0)
      ⊢ WP c (Prog.lift (.waitDma2 (at16 (arr f) r.succ) A D hA hD))
          (fun _ => iprop((recs m ρ K ∗ ows c b a t) ∗ atPos ER (kcell c (some (.inr (f, r.succ)))) 1 ∅ 0 ∗ xPay m ρ c f r.succ)) := by
  unfold WP ows
  simp only [Prog.lift]
  iintro ⟨⟨#HR, ⟨%W, HO⟩⟩, Hc, Hat⟩
  iapply (Rounds.wp_wait_rest_token 𝒱₀ ER (Rd m ρ) (c : Thread nD τ) none (κ := K (c, some (.inr (f, r.succ))))
      (wpE_waitDma2_eq 𝒱₀ (c : Thread nD τ) none Set.univ) (Set.mem_univ _) () (O := oweD c b a t) (W := W) (R := 0) (m := 0) (T := ∅)
      (by rw [Nat.zero_add]; exact hN.trans (expect_x m ρ c f r).symm)) $$ [Hc HO Hat]
  · isplitr; · iapply (inv_at m ρ K c (some (.inr (f, r.succ)))); iexact HR
    isplitl [Hc]; · rw [hN]; iexact Hc
    isplitl [HO]; · iexact HO
    isplitr
    · rcases ht with ht | ⟨rfl, rfl, rfl⟩
      · iapply (mayWait_of c (.dma (at16 (arr f) r.succ)) b a t n (le_trans (le_of_eq (lv_x c f r.succ)) hn) hb ha ht)
        iapply (lev_at m ρ K); iexact HR
      · rw [oweD_end, MayWait_zero]; iempintro
    iexact Hat
  iintro ⟨HO, Hat, -, Hp⟩
  rw [wp_ret]; imodintro
  isplitl [HO]
  · isplitr; · iexact HR
    iexists _; iexact HO
  isplitl [Hat]; · iexact Hat
  rw [← rest_x m ρ c f r]; iexact Hp

theorem aSent_step (c : Dev nD) (r : Fin 15) :
    iprop((recs m ρ K ∗ ows c 15 15 0) ∗ cred (tallyAt (asC c r.succ) () NA) ∗ atPos ER (asC c r.succ) 0 ∅ 0)
      ⊢ WP c (aSentP r) (fun _ => iprop((recs m ρ K ∗ ows c 15 15 0) ∗ atPos ER (asC c r.succ) 1 ∅ 0 ∗ aPts m ρ c 0 (shareTok fullShare 16 r.succ))) :=
  xwait_step m ρ K c 0 r 15 15 0 0 (NA_eq 0) (le_refl _) (fun h => absurd rfl h) (fun h => absurd rfl h) (.inl (by decide))
theorem aRecv_step (c : Dev nD) (r : Fin 15) :
    iprop((recs m ρ K ∗ ows c 15 15 0) ∗ cred (tallyAt (arC c r.succ) () NA) ∗ atPos ER (arC c r.succ) 0 ∅ 0)
      ⊢ WP c (aRecvP r) (fun _ => iprop((recs m ρ K ∗ ows c 15 15 0) ∗ atPos ER (arC c r.succ) 1 ∅ 0 ∗ aPts m ρ c r.succ fullShare)) :=
  xwait_step m ρ K c 1 r 15 15 0 2 (NA_eq r.succ) (le_refl _) (fun h => absurd rfl h) (fun h => absurd rfl h) (.inl (by decide))
theorem tSent_step (c : Dev nD) (r : Fin 15) :
    iprop((recs m ρ K ∗ ows c 15 15 15) ∗ cred (tallyAt (tsC c r.succ) () NT) ∗ atPos ER (tsC c r.succ) 0 ∅ 0)
      ⊢ WP c (tSentP r) (fun _ => iprop((recs m ρ K ∗ ows c 15 15 15) ∗ atPos ER (tsC c r.succ) 1 ∅ 0 ∗ hole (F := F) c (qS r.succ))) :=
  xwait_step m ρ K c 2 r 15 15 15 0 (NTq_eq r.succ) (le_refl _) (fun h => absurd rfl h) (fun h => absurd rfl h) (.inl (by decide))
theorem tWait_step (c : Dev nD) (r : Fin 15) :
    iprop((recs m ρ K ∗ ows c 15 15 15) ∗ cred (tallyAt (trC c r.succ) () NT) ∗ atPos ER (trC c r.succ) 0 ∅ 0)
      ⊢ WP c (Prog.lift (.waitDma2 (trSem r.succ) (qS r.succ) (lS r.succ) (wxQ r.succ) (wxL r.succ)))
          (fun _ => iprop((recs m ρ K ∗ ows c 15 15 15) ∗ atPos ER (trC c r.succ) 1 ∅ 0 ∗ full c (lS r.succ) (qv m ρ (src c r.succ.val) c))) :=
  xwait_step m ρ K c 3 r 15 15 15 3 (NTl_eq r.succ) (le_refl _) (fun h => absurd rfl h) (fun h => absurd rfl h) (.inr ⟨rfl, rfl, rfl⟩)

end Cert.KernelIdeal.Ring

end
-- ==== Proof.IdealMem.lean ====
/- Loads and stores of a piece of a buffer, and the same piece seen with its leading axis of one dropped. -/
module

public import proofs.«01_k».proof.Proof.IdealRules

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Access
variable (c : Dev nD) {cs : CoreSpace} {s : Shape} {e : EltTy} {M : Memref sig .tc cs s e} {r : Rect s} {hr : ∀ a, r.stride a = 1}
  {α : Type}

/-- A piece loaded. -/
theorem load_full {hl : M.view.LoadsAt r.toLoadRect} {k : (r.shape.Idx → Elt F e) → P (F := F) α} {Q : α → sProp 𝕄} (X : r.shape.Idx → Elt F e) :
    full (F := F) c (M.slice r hr) X ⊢ iprop((full (F := F) c (M.slice r hr) X -∗ WP c (k X) Q) -∗ WP c (.op (.load M r.toLoadRect hl) k) Q) := by
  unfold full owns WP
  iintro ⟨%f, %hf, H⟩ Hk
  iapply (wp_load_rect 𝒱₀ (c : Thread nD τ) none Set.univ (m := M) (r := r) (S := (M.slice r hr).view.set) (Finset.Subset.refl _)) $$ H
  iintro H
  rw [show (M.access r).read (Elt F) f = X from hf]
  iapply Hk
  iexists f
  isplitr; · ipureintro; exact hf
  iexact H

/-- A piece of no interest loaded. -/
theorem load_hole {hl : M.view.LoadsAt r.toLoadRect} {k : (r.shape.Idx → Elt F e) → P (F := F) α} {Q : α → sProp 𝕄} :
    hole (F := F) c (M.slice r hr) ⊢ iprop((∀ X, hole (F := F) c (M.slice r hr) -∗ WP c (k X) Q) -∗ WP c (.op (.load M r.toLoadRect hl) k) Q) := by
  unfold hole WP
  iintro ⟨%f, H⟩ Hk
  iapply (wp_load_rect 𝒱₀ (c : Thread nD τ) none Set.univ (m := M) (r := r) (S := (M.slice r hr).view.set) (Finset.Subset.refl _)) $$ H
  iintro H
  iapply Hk
  iexists f
  iexact H

/-- A piece stored. -/
theorem store_hole {w : r.shape.Idx → Elt F e} {hx : (M.access r).Stores Finset.univ} {hm} {k : PUnit → P (F := F) α} {Q : α → sProp 𝕄} :
    hole (F := F) c (M.slice r hr) ⊢ iprop((full (F := F) c (M.slice r hr) w -∗ WP c (k ⟨⟩) Q) -∗ WP c (.op (.store M r w Finset.univ hx hm) k) Q) := by
  unfold hole full owns WP
  iintro ⟨%f, H⟩ Hk
  iapply (wp_store 𝒱₀ (c : Thread nD τ) none Set.univ (m := M) (r := r) (Mk := Finset.univ) (S := (M.slice r hr).view.set) (Finset.Subset.refl _)) $$ H
  iintro H
  iapply Hk
  iexists (M.access r).write (Elt F) f w Finset.univ
  isplitr
  · ipureintro; exact View.read_write_univ _ _
  iexact H

end Access

theorem full_hole (c : Dev nD) {sp : Space} {s : Shape} {e : EltTy} (M : Memref sig .tc sp s e) (X : s.Idx → Elt F e) :
    full (F := F) c M X ⊢ hole c M := by
  unfold full owns hole
  iintro ⟨%f, -, H⟩; iexists f; iexact H

section Squeeze
variable (c : Dev nD) {sp : Space} {s s' : Shape} {e : EltTy} {M : Memref sig .tc sp s e} (h : s.Squeezes s')

theorem hole_squeeze : hole (F := F) c (M.squeeze s' h) = hole c M := by
  unfold hole
  simp only [Memref.view_squeeze, View.set_reshape]

theorem full_squeeze (X : s'.Idx → Elt F e) (h2 : s'.ShapeCasts s) : full (F := F) c (M.squeeze s' h) X = full c M (shapeCast s X h2) := by
  unfold full owns
  simp only [Memref.view_squeeze, View.set_reshape]
  refine congrArg _ (funext fun f => ?_)
  have he : ((M.view.reshape s' h.numel_eq).read (Elt F) f = X) = (M.view.read (Elt F) f = shapeCast s X h2) := by
    refine propext ⟨fun hX => ?_, fun hX => ?_⟩
    · subst hX; funext x
      simp only [shapeCast, View.read_apply, View.emb_reshape, Function.Embedding.trans_apply, Equiv.coe_toEmbedding]
      rw [Shape.reshapeEquiv_reshapeEquiv, Shape.reshapeEquiv_self]
    · funext x
      have := congrFun hX (Shape.reshapeEquiv h.numel_eq x)
      simp only [shapeCast, View.read_apply] at this
      rw [Shape.reshapeEquiv_reshapeEquiv, Shape.reshapeEquiv_self] at this
      rw [← this]; rfl
  rw [he]
end Squeeze

end Cert.KernelIdeal.Ring

end
-- ==== Proof.IdealMoves.lean ====
/- The steps that move data: a weight tile copied in and multiplied, the maxima and the quantised tiles sent. -/
module

public import proofs.«01_k».proof.Proof.IdealMem

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option KI → ℕ)

/-- A piece just written whole reads what was written. -/
theorem full_of_write (c : Dev nD) {sp : Space} {s : Shape} {e : EltTy} (M : Memref sig .tc sp s e) (X : s.Idx → Elt F e)
    (fd : Buf (Elt F) (M.view.loc (c : Thread nD τ))) :
    (M.view.loc (c : Thread nD τ) ↦[M.view.set]{fullShare} (M.view.write (Elt F) fd X Finset.univ) : sProp 𝕄) ⊢ full (F := F) c M X := by
  unfold full owns
  iintro H
  iexists M.view.write (Elt F) fd X Finset.univ
  isplitr
  · ipureintro; exact View.read_write_univ _ _
  iexact H

/-! ## The weights -/

/-- Tile `j`, round `t` of slot `s`, started. -/
theorem wStart_step (c : Dev nD) (j : Fin 16) (s : Fin 2) (t : ℕ) (hj : j.val = 2 * t + s.val) (ht : t < 8) :
    iprop(recs m ρ K ∗ dutyTok ER (wC c s) t 0 ∗ reached ER (wC c s) t ∗ wTile m ρ c j ∗ hole (F := F) c (wS s))
      ⊢ WP c (wStartP j s) (fun _ => cred (tallyAt (wC c s) () NW)) := by
  unfold WP wStartP wTile hole
  simp only [Prog.lift]
  iintro ⟨#HR, Ht, Hr, Hw, ⟨%fd, Hd⟩⟩
  iapply (Rounds.wp_copy_pointsTo 𝒱₀ ER (Rd m ρ) (c : Thread nD τ) none (κ := K (c, some (.inl s))) (q := fullShare) (fs := w1 m ρ c) (fd := fd) (r := t) (d := 0)
      (by rw [duties_w m ρ c s ht]; exact Finset.mem_singleton_self _) () NW (show (wS s).view.amount (.dma (wSem s)) = NW from NW_eq s) (amount_at m ρ c (some (.inl s)) t 0) (by
        rw [payload_at m ρ c (some (.inl s)) t 0]; unfold payK wPay wTile; dsimp only
        rw [← hj, ix16_eq]
        exact sep_mono_left (full_of_write c (wS s) (wt m ρ c j) fd)))
    $$ [Ht Hr Hw Hd]
  · isplitr; · iapply (inv_at m ρ K c (some (.inl s))); iexact HR
    isplitl [Hw]; · iexact Hw
    isplitl [Hd]; · iexact Hd
    isplitl [Ht] <;> iassumption
  iintro Hc
  rw [wp_ret]; imodintro
  iexact Hc

/-- The block of `x`, staged. -/
def xPt (c : Dev nD) : sProp 𝕄 := (c : Thread nD τ).loc cc0_stg0_0 ↦{fullShare} xstg m ρ c
/-- Slot `j` of the product's tiles. -/
abbrev yS (j : Fin 16) : Memref sig .tc .vmem S1x256x512 .f32 := yB.slice (rY j) (fun _ => rfl)

theorem zero2 : (![0, 0] : Fin 2 → Nat) = fun _ => 0 := funext fun a => by fin_cases a <;> rfl
theorem zero3 : (![0, 0, 0] : Fin 3 → Nat) = fun _ => 0 := funext fun a => by fin_cases a <;> rfl

theorem load_x (c : Dev nD) {α : Type} {Q : α → sProp 𝕄}
    {hl : xM.view.LoadsAt (Rect.unit (s := S256x4096) ![0, 0] S256x4096.size inb_S256x4096_S256x4096_0_0).toLoadRect} {k : Vec F S256x4096 .f32 → P (F := F) α} :
    xPt m ρ c ⊢ iprop((xPt m ρ c -∗ WP c (k (xstg m ρ c)) Q)
      -∗ WP c (.op (.load xM (Rect.unit (s := S256x4096) ![0, 0] S256x4096.size inb_S256x4096_S256x4096_0_0).toLoadRect hl) k) Q) := by
  unfold WP xPt
  iintro H Hk
  iapply (wp_load 𝒱₀ (c : Thread nD τ) none Set.univ (m := xM) (Finset.subset_univ _)) $$ H
  iintro H
  rw [show xM.view.readAt (Elt F) (Rect.unit (s := S256x4096) ![0, 0] S256x4096.size inb_S256x4096_S256x4096_0_0).toLoadRect (xstg m ρ c) = xstg m ρ c from
    Memref.readAt_unit_zero (Elt F) cc0_stg0_0 zero2 _ _]
  iapply Hk
  iexact H

theorem wS_full (c : Dev nD) (s : Fin 2) (j : Fin 16) :
    full (F := F) c (wS s) (wt m ρ c j) = full c (wB.slice (rW s) (fun _ => rfl)) (wv m ρ c j) :=
  full_squeeze c (M := wB.slice (rW s) (fun _ => rfl)) squeezes_S1x4096x512_S4096x512 (wt m ρ c j) scW

/-- The wait for a weight tile. -/
theorem wWait_step (c : Dev nD) (j : Fin 16) (s : Fin 2) (t : ℕ) (hj : j.val = 2 * t + s.val) (ht : t < 8) {hA hD} :
    iprop((recs m ρ K ∗ ows c 15 0 0) ∗ cred (tallyAt (wC c s) () NW) ∗ atPos ER (wC c s) t ∅ 0)
      ⊢ WP c (Prog.lift (.waitDma2 (wSem s) (wT j) (wS s) hA hD))
          (fun _ => iprop((recs m ρ K ∗ ows c 15 0 0) ∗ (atPos ER (wC c s) (t + 1) ∅ 0 ∗ reached ER (wC c s) (t + 1))
            ∗ full c (wS s) (wt m ρ c j) ∗ wTile m ρ c j)) := by
  unfold WP ows
  simp only [Prog.lift]
  iintro ⟨⟨#HR, ⟨%W, HO⟩⟩, Hc, Hat⟩
  iapply (Rounds.wp_wait_rest_token 𝒱₀ ER (Rd m ρ) (c : Thread nD τ) none (κ := K (c, some (.inl s)))
      (wpE_waitDma2_eq 𝒱₀ (c : Thread nD τ) none Set.univ) (Set.mem_univ _) () (O := oweD c 15 0 0) (W := W) (R := t) (m := 0) (T := ∅)
      (by rw [Nat.zero_add]; exact (NW_eq s).trans (expect_w m ρ c s ht).symm)) $$ [Hc HO Hat]
  · isplitr; · iapply (inv_at m ρ K c (some (.inl s))); iexact HR
    isplitl [Hc]; · rw [NW_eq]; iexact Hc
    isplitl [HO]; · iexact HO
    isplitr
    · iapply (mayWait_of c (.dma (wSem s)) 15 0 0 0 (by rw [show kindOf (.dma (wSem s)) = some (some (.inl s)) from kind_osem (.inl s)]; exact le_refl _) (fun h => absurd rfl h) (fun _ => by decide) (by decide))
      iapply (lev_at m ρ K); iexact HR
    iexact Hat
  iintro ⟨HO, Hat, Hr, Hp⟩
  rw [wp_ret]; imodintro
  isplitl [HO]
  · isplitr; · iexact HR
    iexists _; iexact HO
  isplitl [Hat Hr]
  · isplitl [Hat] <;> iassumption
  ihave Hp' := (Entails.of_eq (rest_w m ρ c s ht)) $$ Hp
  unfold wPay
  rw [← hj, ix16_eq]
  iexact Hp'

/-- Tile `j`'s product. -/
theorem prod_step (c : Dev nD) (j : Fin 16) (s : Fin 2) (t : ℕ) (acc : F .f32) (hj : j.val = 2 * t + s.val) (ht : t < 8) :
    iprop((recs m ρ K ∗ ows c 15 0 0) ∗ (cred (tallyAt (wC c s) () NW) ∗ atPos ER (wC c s) t ∅ 0) ∗ xPt m ρ c ∗ hole (F := F) c (yS j))
      ⊢ WP c (prodP j s acc) (fun a => iprop(⌜a = maxV acc (xstg m ρ c) (wv m ρ c j)⌝ ∗ (recs m ρ K ∗ ows c 15 0 0)
          ∗ (atPos ER (wC c s) (t + 1) ∅ 0 ∗ reached ER (wC c s) (t + 1)) ∗ xPt m ρ c ∗ hole (F := F) c (wS s) ∗ wTile m ρ c j ∗ full c (yS j) (yv m ρ c j))) := by
  unfold prodP
  iintro ⟨Hro, Hc, Hx, Hy⟩
  unfold WP; rw [wp_bind]
  iapply (WP_wand c) $$ [Hro Hc]
  · iapply (wWait_step m ρ K c j s t hj ht)
    isplitl [Hro] <;> iassumption
  iintro %_ ⟨Hro, Hat, Hw, Ht⟩
  simp only [Prog.lift, Prog.bind_op, Prog.bind_ret]
  iapply (load_x m ρ c) $$ Hx
  iintro Hx
  ihave Hw := (Entails.of_eq (wS_full m ρ c s j)) $$ Hw
  iapply (load_full c (wv m ρ c j)) $$ Hw
  iintro Hw
  iapply (load_hole c (M := yB) (r := rY j) (hr := fun _ => rfl)) $$ Hy
  iintro %_ Hy
  iapply (store_hole c (M := yB) (r := rY j) (hr := fun _ => rfl)) $$ Hy
  iintro Hy
  unfold WP
  simp only [Prog.pure_eq_ret, wp_ret]
  imodintro
  isplitr; · ipureintro; trivial
  isplitl [Hro]; · iexact Hro
  isplitl [Hat]; · iexact Hat
  isplitl [Hx]; · iexact Hx
  isplitl [Hw]
  · iapply (full_hole c (wS s) (wt m ρ c j)); iapply (Entails.of_eq (wS_full m ρ c s j).symm); iexact Hw
  isplitl [Ht]; · iexact Ht
  iexact Hy

end Cert.KernelIdeal.Ring

end
-- ==== Proof.IdealTiles.lean ====
/- The product phase: the sixteen weight tiles brought in and multiplied, two in flight. -/
module

public import proofs.«01_k».proof.Proof.IdealMoves

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

/-! ## Sums over sixteen, one of them apart -/

theorem bigSep_apart (b : Fin 16) (f : Fin 15 → Fin 16) (hf : Function.Injective f) (hb : ∀ r, f r ≠ b) (Φ : Fin 16 → sProp 𝕄) :
    bigSep Finset.univ Φ = iprop(Φ b ∗ bigSep Finset.univ fun r => Φ (f r)) := by
  have he : (Finset.univ : Finset (Fin 16)).erase b = Finset.univ.map ⟨f, hf⟩ := by
    refine (Finset.eq_of_subset_of_card_le (fun x hx => ?_) ?_).symm
    · obtain ⟨r, -, rfl⟩ := Finset.mem_map.mp hx
      exact Finset.mem_erase.mpr ⟨hb r, Finset.mem_univ _⟩
    · rw [Finset.card_erase_of_mem (Finset.mem_univ _), Finset.card_map]; exact le_refl _
  rw [BI.bigSep_univ_split b, he, bigSep_map]; rfl
theorem bigSep_succ (Φ : Fin 16 → sProp 𝕄) : bigSep Finset.univ Φ = iprop(Φ 0 ∗ bigSep Finset.univ fun r : Fin 15 => Φ r.succ) :=
  bigSep_apart 0 Fin.succ (Fin.succ_injective 15) Fin.succ_ne_zero Φ
theorem bigSep_castSucc (Φ : Fin 16 → sProp 𝕄) : bigSep Finset.univ Φ = iprop(Φ 15 ∗ bigSep Finset.univ fun r : Fin 15 => Φ r.castSucc) :=
  bigSep_apart 15 Fin.castSucc (Fin.castSucc_injective 15) (by decide) Φ
theorem up_ne : ∀ (c : Dev nD) (r : Fin 15), up c r ≠ c := by decide +kernel
theorem up_inj (c : Dev nD) : Function.Injective (up c) := fun r r' h => by
  have := congrArg Fin.val h
  rw [up_val, up_val] at this
  have h1 := r.isLt; have h2 := r'.isLt; have h3 : c.val < 16 := c.isLt
  exact Fin.ext (by omega)
theorem bigSep_up (c : Dev nD) (Φ : Dev nD → sProp 𝕄) : bigSep Finset.univ Φ = iprop(Φ c ∗ bigSep Finset.univ fun r : Fin 15 => Φ (up c r)) :=
  bigSep_apart c (up c) (up_inj c) (up_ne c) Φ
theorem bigSep_up_rev (c : Dev nD) (Φ : Dev nD → sProp 𝕄) : bigSep Finset.univ Φ = iprop(Φ c ∗ bigSep Finset.univ fun r : Fin 15 => Φ (up c r.rev)) :=
  bigSep_apart c (fun r => up c r.rev) (fun r r' h => Fin.rev_injective (up_inj c h)) (fun r => up_ne c r.rev) Φ

variable (m : (ℓ : Loc nD τ sig) → Buf (Elt F) ℓ) (ρ : Dev nD → PrngReg) (K : Dev nD × Option KI → ℕ)

set_option backward.proofsInPublic true in
@[irreducible] def pr (n : ℕ) : Fin 2 := ⟨n % 2, Nat.mod_lt _ (by decide)⟩
theorem pr_val (n : ℕ) : (pr n).val = n % 2 := by unfold pr; rfl
theorem pr_par (j : Fin 16) : par j = pr j.val := Fin.ext (by rw [pr_val]; rfl)

/-- The token of tile `j`'s arrival. -/
def wTok (c : Dev nD) (j : Fin 16) : sProp 𝕄 := dutyTok ER (wC c (pr j.val)) (j.val / 2) 0
/-- Tile `n` under way. -/
def wFly (c : Dev nD) (n : ℕ) : sProp 𝕄 := iprop(cred (tallyAt (wC c (pr n)) () NW) ∗ atPos ER (wC c (pr n)) (n / 2) ∅ 0)
/-- Tile `n`'s slot free. -/
def wIdle (c : Dev nD) (n : ℕ) : sProp 𝕄 :=
  iprop(hole (F := F) c (wS (pr n)) ∗ atPos ER (wC c (pr n)) (n / 2) ∅ 0 ∗ reached ER (wC c (pr n)) (n / 2))

theorem start_tile (c : Dev nD) (j : Fin 16) (s : Fin 2) (hs : s = pr j.val) :
    iprop(recs m ρ K ∗ wTok (F := F) c j ∗ wTile m ρ c j ∗ wIdle (F := F) c j.val) ⊢ WP c (wStartP j s) (fun _ => wFly (F := F) c j.val) := by
  subst hs
  unfold wTok wIdle wFly
  iintro ⟨#HR, Ht, Hw, Hh, Hat, Hr⟩
  iapply (WP_wand c) $$ [Ht Hw Hh Hr]
  · iapply (wStart_step m ρ K c j (pr j.val) (j.val / 2) (by rw [pr_val]; omega) (by have := j.isLt; omega))
    isplitr; · iexact HR
    isplitl [Ht]; · iexact Ht
    isplitl [Hr]; · iexact Hr
    isplitl [Hw] <;> iassumption
  iintro %_ Hc
  isplitl [Hc] <;> iassumption

theorem idle_next (c : Dev nD) (j : Fin 16) :
    iprop(hole (F := F) c (wS (pr j.val)) ∗ atPos ER (wC c (pr j.val)) (j.val / 2 + 1) ∅ 0 ∗ reached ER (wC c (pr j.val)) (j.val / 2 + 1)) ⊢ wIdle (F := F) c (j.val + 2) := by
  unfold wIdle
  rw [show pr (j.val + 2) = pr j.val from Fin.ext (by rw [pr_val, pr_val]; omega), show (j.val + 2) / 2 = j.val / 2 + 1 by omega]

theorem prod_tile (c : Dev nD) (j : Fin 16) (s : Fin 2) (hs : s = pr j.val) (acc : F .f32) :
    iprop((recs m ρ K ∗ ows c 15 0 0) ∗ wFly (F := F) c j.val ∗ xPt m ρ c ∗ ⌜acc = accN m ρ c j.val⌝ ∗ hole (F := F) c (yS j))
      ⊢ WP c (prodP j s acc) (fun a => iprop(⌜a = accN m ρ c (j.val + 1)⌝ ∗ (recs m ρ K ∗ ows c 15 0 0)
          ∗ wIdle (F := F) c (j.val + 2) ∗ xPt m ρ c ∗ wTile m ρ c j ∗ full c (yS j) (yv m ρ c j))) := by
  subst hs
  unfold wFly
  iintro ⟨Hro, Hf, Hx, %ha, Hy⟩
  subst ha
  iapply (WP_wand c) $$ [Hro Hf Hx Hy]
  · iapply (prod_step m ρ K c j (pr j.val) (j.val / 2) (accN m ρ c j.val) (by rw [pr_val]; omega) (by have := j.isLt; omega))
    isplitl [Hro]; · iexact Hro
    isplitl [Hf]; · iexact Hf
    isplitl [Hx] <;> iassumption
  iintro %a ⟨%ha, Hro, ⟨Hat, Hr⟩, Hx, Hh, Ht, Hy⟩
  isplitr
  · ipureintro; rw [ha, accN, ix16_eq]
  isplitl [Hro]; · iexact Hro
  isplitl [Hat Hr Hh]
  · iapply (idle_next c j)
    isplitl [Hh]; · iexact Hh
    isplitl [Hat] <;> iassumption
  isplitl [Hx]; · iexact Hx
  isplitl [Ht] <;> iassumption

/-- The state of the loop before round `n`. -/
def loopR (c : Dev nD) (n : ℕ) (acc : F .f32) : sProp 𝕄 :=
  iprop((recs m ρ K ∗ ows c 15 0 0) ∗ wFly (F := F) c n ∗ wIdle (F := F) c (n + 1) ∗ xPt m ρ c ∗ ⌜acc = accN m ρ c n⌝)

theorem step_step (c : Dev nD) (r : Fin 15) (acc : F .f32) :
    iprop(loopR m ρ K c r.val acc ∗ (wTok (F := F) c r.succ ∗ wTile m ρ c r.succ) ∗ hole (F := F) c (yS r.castSucc))
      ⊢ WP c (stepP r acc) (fun a => iprop(loopR m ρ K c (r.val + 1) a ∗ wTile m ρ c r.castSucc ∗ full c (yS r.castSucc) (yv m ρ c r.castSucc))) := by
  unfold loopR stepP
  iintro ⟨⟨⟨#HR, Hro⟩, Hf, Hi, Hx, %ha⟩, ⟨Ht, Hw⟩, Hy⟩
  unfold WP; rw [wp_bind]
  iapply (WP_wand c) $$ [Hi Ht Hw]
  · iapply (start_tile m ρ K c r.succ (par r.succ) (pr_par _))
    isplitr; · iexact HR
    isplitl [Ht]; · iexact Ht
    isplitl [Hw]; · iexact Hw
    iexact Hi
  iintro %_ Hf'
  iapply (WP_wand c) $$ [Hro Hf Hx Hy]
  · iapply (prod_tile m ρ K c r.castSucc (par r.castSucc) (pr_par _) acc)
    isplitl [Hro]
    · isplitr; · iexact HR
      iexact Hro
    isplitl [Hf]; · iexact Hf
    isplitl [Hx]; · iexact Hx
    isplitr; · ipureintro; exact ha
    iexact Hy
  iintro %a ⟨%ha', Hro, Hi, Hx, Hw, Hy⟩
  isplitl [Hro Hf' Hi Hx]
  · isplitl [Hro]; · iexact Hro
    isplitl [Hf']; · iexact Hf'
    isplitl [Hi]; · iexact Hi
    isplitl [Hx]; · iexact Hx
    ipureintro; exact ha'
  isplitl [Hw] <;> iassumption

/-- The product phase. -/
def prodsP : P (F := F) (F .f32) := do
  wStartP 0 0
  let acc ← foldL stepP rounds (Scalar.ofBits .f32 0x00000000#32)
  prodP 15 1 acc

theorem prods_step (c : Dev nD) :
    iprop((recs m ρ K ∗ ows c 15 0 0) ∗ wIdle (F := F) c 0 ∗ wIdle (F := F) c 1 ∗ xPt m ρ c
        ∗ bigSep Finset.univ (fun j => iprop(wTok (F := F) c j ∗ wTile m ρ c j)) ∗ bigSep Finset.univ fun j => hole (F := F) c (yS j))
      ⊢ WP c prodsP (fun a => iprop(⌜a = lmax m ρ c⌝ ∗ (recs m ρ K ∗ ows c 15 0 0) ∗ wIdle (F := F) c 16 ∗ wIdle (F := F) c 17 ∗ xPt m ρ c
          ∗ bigSep Finset.univ fun j => iprop(wTile m ρ c j ∗ full c (yS j) (yv m ρ c j)))) := by
  rw [bigSep_succ (fun j => iprop(wTok (F := F) c j ∗ wTile m ρ c j)), bigSep_castSucc (fun j => hole (F := F) c (yS j)),
    bigSep_castSucc (fun j => iprop(wTile m ρ c j ∗ full c (yS j) (yv m ρ c j)))]
  unfold prodsP
  iintro ⟨⟨#HR, Hro⟩, H0, H1, Hx, ⟨⟨Ht, Hw⟩, Hts⟩, Hy, Hys⟩
  unfold WP; rw [wp_bind]
  iapply (WP_wand c) $$ [H0 Ht Hw]
  · iapply (start_tile m ρ K c 0 0 (Fin.ext (by rw [pr_val]; rfl)))
    isplitr; · iexact HR
    isplitl [Ht]; · iexact Ht
    isplitl [Hw]; · iexact Hw
    iexact H0
  iintro %_ Hf
  rw [wp_bind]
  iapply (WP_wand c) $$ [Hro H1 Hx Hts Hys Hf]
  · iapply (wp_foldL c stepP (loopR m ρ K c) (fun r => iprop((wTok (F := F) c r.succ ∗ wTile m ρ c r.succ) ∗ hole (F := F) c (yS r.castSucc)))
      (fun r => iprop(wTile m ρ c r.castSucc ∗ full c (yS r.castSucc) (yv m ρ c r.castSucc))) (step_step m ρ K c))
    isplitl [Hro H1 Hx Hf]
    · unfold loopR
      isplitl [Hro]
      · isplitr; · iexact HR
        iexact Hro
      isplitl [Hf]; · iexact Hf
      isplitl [H1]; · iexact H1
      isplitl [Hx]; · iexact Hx
      ipureintro; rfl
    iapply (Entails.of_eq (bigSep_sep' Finset.univ (fun r : Fin 15 => iprop(wTok (F := F) c r.succ ∗ wTile m ρ c r.succ)) (fun r : Fin 15 => hole (F := F) c (yS r.castSucc))).symm)
    isplitl [Hts] <;> iassumption
  iintro %a ⟨HR, Hys⟩
  unfold loopR
  icases HR with ⟨Hro, Hf, Hi, Hx, %ha⟩
  iapply (WP_wand c) $$ [Hro Hf Hx Hy]
  · iapply (prod_tile m ρ K c 15 1 (Fin.ext (by rw [pr_val]; rfl)) a)
    isplitl [Hro]; · iexact Hro
    isplitl [Hf]; · iexact Hf
    isplitl [Hx]; · iexact Hx
    isplitr; · ipureintro; exact ha
    iexact Hy
  iintro %a' ⟨%ha', Hro, Hi', Hx, Hw, Hy⟩
  isplitr; · ipureintro; exact ha'
  isplitl [Hro]; · iexact Hro
  isplitl [Hi]; · iexact Hi
  isplitl [Hi']; · iexact Hi'
  isplitl [Hx]; · iexact Hx
  isplitl [Hw Hy]
  · isplitl [Hw] <;> iassumption
  iexact Hys

end Cert.KernelIdeal.Ring

end
-- ==== Proof.IdealSend.lean ====
/- The exchange: the maxima gathered, the quantised tiles sent and received, the result's row blocks stored. -/
module

public import proofs.«01_k».proof.Proof.IdealMoves
public import Idealize.ShloMosaic.Lib.ViewIndex

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option KI → ℕ)

/-- A piece that reads as `g` does holds what `g` does there. -/
theorem full_pts (c : Dev nD) {sp : Space} {s : Shape} {e : EltTy} (M : Memref sig .tc sp s e) (X : s.Idx → Elt F e)
    (g : Buf (Elt F) (M.view.loc (c : Thread nD τ))) (h : M.view.read (Elt F) g = X) :
    full (F := F) c M X ⊢ (M.view.loc (c : Thread nD τ) ↦[M.view.set]{fullShare} g : sProp 𝕄) := by
  unfold full owns
  iintro ⟨%f, %hf, H⟩
  have he : ∀ i ∈ M.view.set, f i = g i := fun i hi => by
    obtain ⟨x, -, rfl⟩ := Finset.mem_map.mp hi
    exact View.eq_of_read_eq (by rw [hf, h])
  iapply (Entails.of_eq (pointsTo_congr he))
  iexact H

/-! ## The maxima -/

theorem aS_emb (k : Fin 16) (x : S8x128.Idx) : ((aS k).view.emb x 0 : Fin 16) = k := by
  generalize hy : Shape.reshapeEquiv (s := (rA k).shape) (squeezes_S1x8x128_S8x128).numel_eq x = y
  have he : (((aS k).view.emb x 0 : Fin 16) : ℕ) = (rA k).off 0 + (rA k).stride 0 * (y 0).val := by rw [← hy]; rfl
  have h1 : (y 0).val < 1 := (y 0).isLt
  refine Fin.ext (he.trans ?_)
  rw [show (y 0).val = 0 by omega, Nat.mul_zero, Nat.add_zero]
  rfl

theorem aS_read (c : Dev nD) (k : Fin 16) : (aS k).view.read (Elt F) (AM m ρ c) = fun _ => lmax m ρ (src c k.val) := by
  funext x
  show lmax m ρ (src c ((aS k).view.emb x 0 : Fin 16).val) = _
  rw [aS_emb]

theorem aS_full (c : Dev nD) (k : Fin 16) : full (F := F) c (aS k) (fun _ => lmax m ρ (src c k.val)) ⊢ aPts m ρ c k fullShare := by
  unfold aPts
  exact full_pts c (aS k) _ (AM m ρ c) (aS_read m ρ c k)

theorem aSet_step (c : Dev nD) : hole (F := F) c (aS 0) ⊢ WP c (aSetP (lmax m ρ c)) (fun _ => aPts m ρ c 0 fullShare) := by
  unfold aSetP
  simp only [Prog.lift, Prog.bind_op, Prog.bind_ret]
  iintro Hh
  ihave Hh := (Entails.of_eq (hole_squeeze c (M := aB.slice (rA 0) (fun _ => rfl)) squeezes_S1x8x128_S8x128)) $$ Hh
  iapply (load_hole c (M := aB) (r := rA 0) (hr := fun _ => rfl)) $$ Hh
  iintro %_ Hh
  iapply (store_hole c (M := aB) (r := rA 0) (hr := fun _ => rfl)) $$ Hh
  iintro Hh
  unfold WP
  rw [wp_ret]
  imodintro
  iapply (aS_full m ρ c 0)
  rw [show (fun _ : S8x128.Idx => lmax m ρ (src c (0 : Fin 16).val)) = fun _ => lmax m ρ c from by rw [show src c (0 : Fin 16).val = c from src_zero c]]
  iapply (Entails.of_eq (full_squeeze c (M := aB.slice (rA 0) (fun _ => rfl)) squeezes_S1x8x128_S8x128 (fun _ => lmax m ρ c) (by decide)).symm)
  iexact Hh

theorem aSend_step (c : Dev nD) (r : Fin 15) :
    iprop((recs m ρ K ∗ ows c 15 r.val 0) ∗ (dutyTok ER (asC c r.succ) 0 0 ∗ dutyTok ER (arC (up c r) r.succ) 0 0)
        ∗ aPts m ρ c 0 (shareTok fullShare 16 r.succ) ∗ hole (F := F) (up c r) (aS r.succ))
      ⊢ WP c (aSendP c r) (fun _ => iprop((recs m ρ K ∗ ows c 15 (r.val + 1) 0) ∗ cred (tallyAt (asC c r.succ) () NA))) := by
  unfold WP aSendP ows aPts hole
  simp only [Prog.lift]
  iintro ⟨⟨#HR, ⟨%W, HO⟩⟩, ⟨Ht1, Ht2⟩, Hs, ⟨%fd, Hd⟩⟩
  iapply (Rounds.wp_send_pointsTo 𝒱₀ ER (Rd m ρ) (c : Thread nD τ) none (c' := (up c r : Thread nD τ)) (q := shareTok fullShare 16 r.succ) (fs := AM m ρ c) (fd := fd)
      (κ₁ := K (c, some (.inr (0, r.succ)))) (κ₂ := K (up c r, some (.inr (1, r.succ)))) (r₁ := 0) (r₂ := 0) (d₁ := 0) (d₂ := 0)
      (by rw [duties_x m ρ c 0 r]; exact Finset.mem_singleton_self _) (by rw [duties_x m ρ (up c r) 1 r]; exact Finset.mem_singleton_self _)
      () () NA (show (aS r.succ).view.amount (.dma (arSem r.succ)) = NA from NA_eq r.succ)
      (amount_at m ρ c (some (.inr (0, r.succ))) 0 0) (amount_at m ρ (up c r) (some (.inr (1, r.succ))) 0 0)
      (oweD c 15 (r.val + 1) 0) (oweD_ar c r 15 0)
      (by rw [payload_at m ρ c (some (.inr (0, r.succ))) 0 0]; exact Entails.rfl)
      (by
        rw [payload_at m ρ (up c r) (some (.inr (1, r.succ))) 0 0]
        refine (full_of_write (up c r) (aS r.succ) _ fd).trans ?_
        rw [aS_read, show (fun _ : S8x128.Idx => lmax m ρ (src c (0 : Fin 16).val)) = fun _ => lmax m ρ (src (up c r) r.succ.val) from by
          rw [show src c (0 : Fin 16).val = c from src_zero c, src_up]]
        exact aS_full m ρ (up c r) r.succ))
    $$ [HO Ht1 Ht2 Hs Hd]
  · isplitr; · iapply (inv_at m ρ K c (some (.inr (0, r.succ)))); iexact HR
    isplitr; · iapply (inv_at m ρ K (up c r) (some (.inr (1, r.succ)))); iexact HR
    isplitl [Hs]; · iexact Hs
    isplitl [Hd]; · iexact Hd
    isplitl [HO]; · iexact HO
    isplitl [Ht1]; · iexact Ht1
    isplitr; · iapply (reached_at m ρ K c (some (.inr (0, r.succ)))); iexact HR
    isplitl [Ht2]; · iexact Ht2
    iapply (reached_at m ρ K (up c r) (some (.inr (1, r.succ)))); iexact HR
  iintro ⟨Hc, HO⟩
  rw [wp_ret]; imodintro
  isplitl [HO]
  · isplitr; · iexact HR
    iexists W; iexact HO
  iexact Hc

/-! ## The tiles -/

section At
variable (c : Dev nD) {cs : CoreSpace} {s : Shape} {e : EltTy} {M : Memref sig .tc cs s e} {off off' size : Fin s.rank → ℕ}
  {inb : ∀ a, off a + size a ≤ s.size a} {inb' : ∀ a, off' a + size a ≤ s.size a} {α : Type}

theorem load_full_at (h : off = off') {hl : M.view.LoadsAt (Rect.unit off size inb).toLoadRect} {k : ((Rect.unit off size inb).shape.Idx → Elt F e) → P (F := F) α}
    {Q : α → sProp 𝕄} (X : (Rect.unit off size inb).shape.Idx → Elt F e) :
    full (F := F) c (M.slice (Rect.unit off' size inb') (fun _ => rfl)) X
      ⊢ iprop((full (F := F) c (M.slice (Rect.unit off' size inb') (fun _ => rfl)) X -∗ WP c (k X) Q) -∗ WP c (.op (.load M (Rect.unit off size inb).toLoadRect hl) k) Q) := by
  subst h; exact load_full c X
theorem load_hole_at (h : off = off') {hl : M.view.LoadsAt (Rect.unit off size inb).toLoadRect} {k : ((Rect.unit off size inb).shape.Idx → Elt F e) → P (F := F) α}
    {Q : α → sProp 𝕄} :
    hole (F := F) c (M.slice (Rect.unit off' size inb') (fun _ => rfl))
      ⊢ iprop((∀ X, hole (F := F) c (M.slice (Rect.unit off' size inb') (fun _ => rfl)) -∗ WP c (k X) Q) -∗ WP c (.op (.load M (Rect.unit off size inb).toLoadRect hl) k) Q) := by
  subst h; exact load_hole c
theorem store_hole_at (h : off = off') {w : (Rect.unit off size inb).shape.Idx → Elt F e} {hx : (M.access (Rect.unit off size inb)).Stores Finset.univ} {hm}
    {k : PUnit → P (F := F) α} {Q : α → sProp 𝕄} :
    hole (F := F) c (M.slice (Rect.unit off' size inb') (fun _ => rfl))
      ⊢ iprop((full (F := F) c (M.slice (Rect.unit off' size inb') (fun _ => rfl)) w -∗ WP c (k ⟨⟩) Q) -∗ WP c (.op (.store M (Rect.unit off size inb) w Finset.univ hx hm) k) Q) := by
  subst h; exact store_hole c
end At

theorem off1_up (c : Dev nD) (r : Fin 15) : k0_off1 c (BitVec.ofNat 32 (1 + r.val)) = ![(up c r).val, 0, 0] := by
  rw [k0_off1_eq, up_val]

theorem sc1 : S256x512.ShapeCasts S1x256x512 := by decide

/-- Slot `k` of the tiles to send, filled. -/
theorem qS_full (c : Dev nD) (k : Fin 16) (q : FVec F S256x512 .fp8e4m3) :
    full (F := F) c (qB.slice (rY k) (fun _ => rfl)) (shapeCast S1x256x512 q sc1) = full c (qS k) q :=
  (full_squeeze c (M := qB.slice (rY k) (fun _ => rfl)) squeezes_S1x256x512_S256x512 q sc1).symm
theorem qS_full1 (c : Dev nD) (k : Fin 16) (s : F .f32) (y : Vec F S1x256x512 .f32) :
    full (F := F) c (qB.slice (rY k) (fun _ => rfl)) (quant1V s y) = full c (qS k) (quantV s y) := qS_full c k (quantV s y)
theorem lS_full (c : Dev nD) (k : Fin 16) (q : FVec F S256x512 .fp8e4m3) :
    full (F := F) c (lS k) q = full c (lB.slice (rY k) (fun _ => rfl)) (shapeCast S1x256x512 q sc1) :=
  full_squeeze c (M := lB.slice (rY k) (fun _ => rfl)) squeezes_S1x256x512_S256x512 q sc1

theorem tSend_step (c : Dev nD) (r : Fin 15) :
    iprop((recs m ρ K ∗ ows c 15 15 r.val) ∗ (dutyTok ER (tsC c r.succ) 0 0 ∗ dutyTok ER (trC (up c r) r.succ) 0 0)
        ∗ full c (yS (up c r)) (yv m ρ c (up c r)) ∗ hole (F := F) c (qS r.succ) ∗ hole (F := F) (up c r) (lS r.succ))
      ⊢ WP c (tSendP c (scl m ρ c) r) (fun _ => iprop((recs m ρ K ∗ ows c 15 15 (r.val + 1)) ∗ cred (tallyAt (tsC c r.succ) () NT) ∗ full c (yS (up c r)) (yv m ρ c (up c r)))) := by
  unfold tSendP
  simp only [Prog.lift, Prog.bind_op, Prog.bind_ret]
  iintro ⟨⟨#HR, HO⟩, ⟨Ht1, Ht2⟩, Hy, Hq, Hd⟩
  iapply (load_full_at c (M := yB) (inb' := inbY (up c r)) (off1_up c r) (yv m ρ c (up c r))) $$ Hy
  iintro Hy
  ihave Hq := (Entails.of_eq (hole_squeeze c (M := qB.slice (rY r.succ) (fun _ => rfl)) squeezes_S1x256x512_S256x512)) $$ Hq
  iapply (load_hole c (M := qB) (r := rY r.succ) (hr := fun _ => rfl)) $$ Hq
  iintro %_ Hq
  iapply (store_hole c (M := qB) (r := rY r.succ) (hr := fun _ => rfl)) $$ Hq
  iintro Hq
  ihave Hq := (Entails.of_eq (qS_full1 c r.succ (scl m ρ c) (yv m ρ c (up c r)))) $$ Hq
  unfold WP ows
  icases HO with ⟨%W, HO⟩
  unfold full owns hole
  icases Hq with ⟨%fs, %hfs, Hs⟩
  icases Hd with ⟨%fd, Hd⟩
  iapply (Rounds.wp_send_pointsTo 𝒱₀ ER (Rd m ρ) (c : Thread nD τ) none (c' := (up c r : Thread nD τ)) (q := fullShare) (fs := fs) (fd := fd)
      (κ₁ := K (c, some (.inr (2, r.succ)))) (κ₂ := K (up c r, some (.inr (3, r.succ)))) (r₁ := 0) (r₂ := 0) (d₁ := 0) (d₂ := 0)
      (by rw [duties_x m ρ c 2 r]; exact Finset.mem_singleton_self _) (by rw [duties_x m ρ (up c r) 3 r]; exact Finset.mem_singleton_self _)
      () () NT (show (lS r.succ).view.amount (.dma (trSem r.succ)) = NT from NTl_eq r.succ)
      (amount_at m ρ c (some (.inr (2, r.succ))) 0 0) (amount_at m ρ (up c r) (some (.inr (3, r.succ))) 0 0)
      (oweD c 15 15 (r.val + 1)) (oweD_tr c r 15 15)
      (by
        rw [payload_at m ρ c (some (.inr (2, r.succ))) 0 0]; unfold payK xPay hole
        dsimp only
        iintro H; iexists fs; iexact H)
      (by
        rw [payload_at m ρ (up c r) (some (.inr (3, r.succ))) 0 0]
        refine (full_of_write (up c r) (lS r.succ) _ fd).trans (Entails.of_eq ?_)
        unfold payK xPay
        dsimp only
        rw [src_up, hfs]; rfl))
    $$ [HO Ht1 Ht2 Hs Hd]
  · isplitr; · iapply (inv_at m ρ K c (some (.inr (2, r.succ)))); iexact HR
    isplitr; · iapply (inv_at m ρ K (up c r) (some (.inr (3, r.succ)))); iexact HR
    isplitl [Hs]; · iexact Hs
    isplitl [Hd]; · iexact Hd
    isplitl [HO]; · iexact HO
    isplitl [Ht1]; · iexact Ht1
    isplitr; · iapply (reached_at m ρ K c (some (.inr (2, r.succ)))); iexact HR
    isplitl [Ht2]; · iexact Ht2
    iapply (reached_at m ρ K (up c r) (some (.inr (3, r.succ)))); iexact HR
  iintro ⟨Hc, HO⟩
  rw [wp_ret]; imodintro
  isplitl [HO]
  · isplitr; · iexact HR
    iexists W; iexact HO
  isplitl [Hc]; · iexact Hc
  iexact Hy

/-! ## The result -/

theorem inbO : ∀ b : Fin 16, ∀ a, (![256 * b.val, 0] : Fin 2 → Nat) a + S256x512.size a ≤ S4096x512.size a := by decide
/-- Row block `b` of the result. -/
abbrev oS (b : Fin 16) : Memref sig .tc .vmem S256x512 .f32 := oM.slice (Rect.unit (s := S4096x512) ![256 * b.val, 0] S256x512.size (inbO b)) (fun _ => rfl)

theorem off4_up (c : Dev nD) (r : Fin 15) : k0_off4 c (BitVec.ofNat 32 (1 + r.val)) = ![256 * (up c r.rev).val, 0] := by
  rw [k0_off4_eq, up_val, Fin.val_rev]
  have := r.isLt
  congr 3; omega

theorem own_step (c : Dev nD) :
    iprop(full c (yS c) (yv m ρ c c) ∗ hole (F := F) c (oS c))
      ⊢ WP c (ownP c (scl m ρ c)) (fun _ => iprop(full c (yS c) (yv m ρ c c) ∗ full c (oS c) (ov m ρ c c))) := by
  unfold ownP
  simp only [Prog.lift, Prog.bind_op, Prog.bind_ret]
  iintro ⟨Hy, Ho⟩
  iapply (load_full_at c (M := yB) (inb' := inbY c) (k0_off2_eq c) (yv m ρ c c)) $$ Hy
  iintro Hy
  iapply (load_hole_at c (M := oM) (inb' := inbO c) (k0_off3_eq c)) $$ Ho
  iintro %_ Ho
  iapply (store_hole_at c (M := oM) (inb' := inbO c) (k0_off3_eq c)) $$ Ho
  iintro Ho
  unfold WP
  rw [wp_ret]; imodintro
  isplitl [Hy]; · iexact Hy
  unfold ov qv
  iexact Ho

theorem ov_recv (c : Dev nD) (r : Fin 15) :
    dequant1V (scl m ρ c) (shapeCast S1x256x512 (qv m ρ (src c r.succ.val) c) sc1) = ov m ρ c (up c r.rev) := by
  unfold ov dequant1V; rw [src_eq_up]
  refine congrArg (dequantV (scl m ρ c)) (funext fun x => ?_)
  unfold shapeCast
  rw [Shape.reshapeEquiv_reshapeEquiv, Shape.reshapeEquiv_self]

theorem tRecv_step (c : Dev nD) (r : Fin 15) :
    iprop((recs m ρ K ∗ ows c 15 15 15) ∗ (cred (tallyAt (trC c r.succ) () NT) ∗ atPos ER (trC c r.succ) 0 ∅ 0) ∗ hole (F := F) c (oS (up c r.rev)))
      ⊢ WP c (tRecvP c (scl m ρ c) r) (fun _ => iprop((recs m ρ K ∗ ows c 15 15 15) ∗ atPos ER (trC c r.succ) 1 ∅ 0
          ∗ hole (F := F) c (lS r.succ) ∗ full c (oS (up c r.rev)) (ov m ρ c (up c r.rev)))) := by
  unfold tRecvP
  iintro ⟨Hro, Hc, Ho⟩
  unfold WP; rw [wp_bind]
  iapply (WP_wand c) $$ [Hro Hc]
  · iapply (tWait_step m ρ K c r)
    isplitl [Hro] <;> iassumption
  iintro %_ ⟨Hro, Hat, Hl⟩
  simp only [Prog.lift, Prog.bind_op, Prog.bind_ret]
  ihave Hl := (Entails.of_eq (lS_full c r.succ (qv m ρ (src c r.succ.val) c))) $$ Hl
  iapply (load_full c (M := lB) (r := rY r.succ) (hr := fun _ => rfl) (shapeCast S1x256x512 (qv m ρ (src c r.succ.val) c) sc1)) $$ Hl
  iintro Hl
  ihave Hl := (Entails.of_eq (lS_full c r.succ (qv m ρ (src c r.succ.val) c)).symm) $$ Hl
  iapply (load_hole_at c (M := oM) (inb' := inbO (up c r.rev)) (off4_up c r)) $$ Ho
  iintro %_ Ho
  iapply (store_hole_at c (M := oM) (inb' := inbO (up c r.rev)) (off4_up c r)) $$ Ho
  iintro Ho
  unfold WP
  rw [wp_ret]; imodintro
  isplitl [Hro]; · iexact Hro
  isplitl [Hat]; · iexact Hat
  isplitl [Hl]; · iapply (full_hole c (lS r.succ)); iexact Hl
  iapply (Entails.of_eq (congrArg (full c (oS (up c r.rev))) (ov_recv m ρ c r)))
  iexact Ho

end Cert.KernelIdeal.Ring

end
-- ==== Proof.IdealBody.lean ====
/- The body: its four phases, each from what it needs to what it leaves. -/
module

public import proofs.«01_k».proof.Proof.IdealTiles
public import proofs.«01_k».proof.Proof.IdealSend
public import Idealize.ShloMosaic.Lib.Ring

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option KI → ℕ)

def barP (c : Dev nD) : P (F := F) PUnit := seqL (signalP c) rounds >>= fun _ => semWaitWord barS 15#32
def maxP (c : Dev nD) (a : F .f32) : P (F := F) (Vec F S16x8x128 .f32) := do
  aSetP a
  seqL (aSendP c) rounds
  seqL aSentP rounds
  seqL aRecvP rounds
  Prog.lift (.load aB (Rect.unit (s := S16x8x128) ![0, 0, 0] S16x8x128.size inb_S16x8x128_S16x8x128_0_0_0).toLoadRect (View.loadsAt_vmem h_S16x8x128))
def tilesP (c : Dev nD) (s : F .f32) : P (F := F) PUnit := do
  seqL (tSendP c s) rounds
  ownP c s
  seqL (tRecvP c s) rounds
  seqL tSentP rounds

theorem bodyP_eq : bodyP (F := F) = (do
    let c : Dev nD ← Prog.lift .deviceId
    barP c
    let a ← prodsP
    let v ← maxP c a
    tilesP c (scaleV v)) := by
  unfold bodyP barP prodsP maxP tilesP
  simp only [bind_assoc]

/-! ## The barrier -/

theorem bigSep_rev (Φ : Fin 15 → sProp 𝕄) : bigSep Finset.univ Φ = bigSep Finset.univ fun r : Fin 15 => Φ r.rev :=
  bigSep_univ_equiv Fin.revPerm Φ

theorem bar_phase (c : Dev nD) :
    iprop((recs m ρ K ∗ ows c 0 0 0) ∗ (bigSep Finset.univ fun r : Fin 15 => dutyTok ER (barC (up c r)) 0 r)
        ∗ (bigSep Finset.univ fun r : Fin 15 => hole (F := F) c (aS r.succ)) ∗ (bigSep Finset.univ fun r : Fin 15 => hole (F := F) c (lS r.succ))
        ∗ cred (tallyAt (barC c) () 15) ∗ atPos ER (barC c) 0 ∅ 0)
      ⊢ WP c (barP c) (fun _ => iprop((recs m ρ K ∗ ows c 15 0 0) ∗ atPos ER (barC c) 1 ∅ 0
        ∗ (bigSep Finset.univ fun r : Fin 15 => hole (F := F) (up c r) (aS r.succ)) ∗ (bigSep Finset.univ fun r : Fin 15 => hole (F := F) (up c r) (lS r.succ)))) := by
  rw [bigSep_rev (fun r => hole (F := F) c (aS r.succ)), bigSep_rev (fun r => hole (F := F) c (lS r.succ)),
    bigSep_rev (fun r => hole (F := F) (up c r) (aS r.succ)), bigSep_rev (fun r => hole (F := F) (up c r) (lS r.succ))]
  unfold barP
  iintro ⟨Hro, Ht, Ha, Hl, Hc, Hat⟩
  unfold WP; rw [wp_bind]
  iapply (WP_wand c) $$ [Hro Ht Ha Hl]
  · iapply (wp_seqL c (signalP c) (fun n => iprop(recs m ρ K ∗ ows c n 0 0))
      (fun r => iprop(dutyTok ER (barC (up c r)) 0 r ∗ hole (F := F) c (aS r.rev.succ) ∗ hole (F := F) c (lS r.rev.succ))) (fun _ => iprop(emp)) (signal_step m ρ K c))
    isplitl [Hro]; · iexact Hro
    iapply (Entails.of_eq (bigSep_sep' Finset.univ (fun r : Fin 15 => dutyTok ER (barC (up c r)) 0 r) (fun r : Fin 15 => iprop(hole (F := F) c (aS r.rev.succ) ∗ hole (F := F) c (lS r.rev.succ)))).symm)
    isplitl [Ht]; · iexact Ht
    iapply (Entails.of_eq (bigSep_sep' Finset.univ (fun r : Fin 15 => hole (F := F) c (aS r.rev.succ)) (fun r : Fin 15 => hole (F := F) c (lS r.rev.succ))).symm)
    isplitl [Ha] <;> iassumption
  iintro %_ ⟨Hro, -⟩
  iapply (WP_wand c) $$ [Hro Hc Hat]
  · iapply (bar_step m ρ K c)
    isplitl [Hro]; · iexact Hro
    isplitl [Hc] <;> iassumption
  iintro %_ ⟨Hro, Hat, Hp⟩
  isplitl [Hro]; · iexact Hro
  isplitl [Hat]; · iexact Hat
  iapply (Entails.of_eq (bigSep_sep' Finset.univ (fun r : Fin 15 => hole (F := F) (up c r.rev) (aS r.rev.succ)) (fun r : Fin 15 => hole (F := F) (up c r.rev) (lS r.rev.succ))))
  iexact Hp

/-! ## The maxima -/

theorem aB_blocks (c : Dev nD) : (bigSep Finset.univ fun k : Fin 16 => aPts m ρ c k fullShare)
    = ((c : Thread nD τ).loc cc0_scratch2 ↦{fullShare} (AM m ρ c : Buf (Elt F) ((c : Thread nD τ).loc cc0_scratch2)) : sProp 𝕄) := by
  refine Eq.trans ?_ (Idealize.ShloMosaic.Ring.pointsTo_blocks (ℓ := (c : Thread nD τ).loc cc0_scratch2) (fun k : Fin 16 => (rA k).set)
    (Idealize.ShloMosaic.Ring.lead_disjoint (s := S16x8x128) 0 1 (fun k : Fin 16 => ![k.val, 0, 0]) S1x8x128.size inbA (fun b => (Nat.one_mul _).symm) rfl)
    (Idealize.ShloMosaic.Ring.lead_cover (s := S16x8x128) 0 1 (fun k : Fin 16 => ![k.val, 0, 0]) S1x8x128.size inbA (fun b => (Nat.one_mul _).symm)
      (by intro b a ha; fin_cases a <;> first | rfl | exact absurd rfl ha) rfl (by decide) rfl) (AM m ρ c)).symm
  refine bigSep_congr fun k _ => ?_
  unfold aPts
  rw [show (aS k).view.set = (rA k).set from
    (View.set_reshape (aB.slice (rA k) (fun _ => rfl)).view (squeezes_S1x8x128_S8x128).numel_eq).trans (View.set_slice_whole cc0_scratch2 (rA k))]

theorem max_phase (c : Dev nD) :
    iprop((recs m ρ K ∗ ows c 15 0 0) ∗ hole (F := F) c (aS 0)
        ∗ (bigSep Finset.univ fun r : Fin 15 => iprop(dutyTok ER (asC c r.succ) 0 0 ∗ dutyTok ER (arC (up c r) r.succ) 0 0))
        ∗ (bigSep Finset.univ fun r : Fin 15 => hole (F := F) (up c r) (aS r.succ))
        ∗ (bigSep Finset.univ fun r : Fin 15 => atPos ER (asC c r.succ) 0 ∅ 0)
        ∗ (bigSep Finset.univ fun r : Fin 15 => cred (tallyAt (arC c r.succ) () NA))
        ∗ (bigSep Finset.univ fun r : Fin 15 => atPos ER (arC c r.succ) 0 ∅ 0))
      ⊢ WP c (maxP c (lmax m ρ c)) (fun v => iprop(⌜v = AM m ρ c⌝ ∗ (recs m ρ K ∗ ows c 15 15 0)
        ∗ (bigSep Finset.univ fun r : Fin 15 => atPos ER (asC c r.succ) 1 ∅ 0) ∗ (bigSep Finset.univ fun r : Fin 15 => atPos ER (arC c r.succ) 1 ∅ 0)
        ∗ bigSep Finset.univ fun k : Fin 16 => aPts m ρ c k fullShare)) := by
  unfold maxP
  iintro ⟨Hro, Ha0, Ht, Hh, Hpas, Hcr, Hpar⟩
  unfold WP; rw [wp_bind]
  iapply (WP_wand c) $$ [Ha0]
  · iapply (aSet_step m ρ c); iexact Ha0
  iintro %_ Ha0
  ihave Hs := (Transfers.pointsTo_toks_split fullShare 16) $$ [Ha0]
  · unfold aPts; iexact Ha0
  icases Hs with ⟨Hdrop, Htok⟩
  ihave Htok := (Entails.of_eq (bigSep_succ (fun k : Fin 16 => aPts m ρ c 0 (shareTok fullShare 16 k)))) $$ [Htok]
  · unfold aPts; iexact Htok
  icases Htok with ⟨Htok0, Htok⟩
  rw [wp_bind]
  iapply (WP_wand c) $$ [Hro Ht Hh Htok]
  · iapply (wp_seqL c (aSendP c) (fun n => iprop(recs m ρ K ∗ ows c 15 n 0))
      (fun r => iprop((dutyTok ER (asC c r.succ) 0 0 ∗ dutyTok ER (arC (up c r) r.succ) 0 0) ∗ aPts m ρ c 0 (shareTok fullShare 16 r.succ) ∗ hole (F := F) (up c r) (aS r.succ)))
      (fun r => cred (tallyAt (asC c r.succ) () NA)) (aSend_step m ρ K c))
    isplitl [Hro]; · iexact Hro
    iapply (Entails.of_eq (bigSep_sep' Finset.univ (fun r : Fin 15 => iprop(dutyTok ER (asC c r.succ) 0 0 ∗ dutyTok ER (arC (up c r) r.succ) 0 0))
      (fun r : Fin 15 => iprop(aPts m ρ c 0 (shareTok fullShare 16 r.succ) ∗ hole (F := F) (up c r) (aS r.succ)))).symm)
    isplitl [Ht]; · iexact Ht
    iapply (Entails.of_eq (bigSep_sep' Finset.univ (fun r : Fin 15 => aPts m ρ c 0 (shareTok fullShare 16 r.succ)) (fun r : Fin 15 => hole (F := F) (up c r) (aS r.succ))).symm)
    isplitl [Htok] <;> iassumption
  iintro %_ ⟨Hro, Hcs⟩
  rw [wp_bind]
  iapply (WP_wand c) $$ [Hro Hcs Hpas]
  · iapply (wp_seqL c aSentP (fun _ => iprop(recs m ρ K ∗ ows c 15 15 0))
      (fun r => iprop(cred (tallyAt (asC c r.succ) () NA) ∗ atPos ER (asC c r.succ) 0 ∅ 0))
      (fun r => iprop(atPos ER (asC c r.succ) 1 ∅ 0 ∗ aPts m ρ c 0 (shareTok fullShare 16 r.succ))) (aSent_step m ρ K c))
    isplitl [Hro]; · iexact Hro
    iapply (Entails.of_eq (bigSep_sep' Finset.univ (fun r : Fin 15 => cred (tallyAt (asC c r.succ) () NA)) (fun r : Fin 15 => atPos ER (asC c r.succ) 0 ∅ 0)).symm)
    isplitl [Hcs] <;> iassumption
  iintro %_ ⟨Hro, Hb⟩
  ihave Hb := (Entails.of_eq (bigSep_sep' Finset.univ (fun r : Fin 15 => atPos ER (asC c r.succ) 1 ∅ 0) (fun r : Fin 15 => aPts m ρ c 0 (shareTok fullShare 16 r.succ)))) $$ Hb
  icases Hb with ⟨Hpas, Htok⟩
  ihave Ha0 := (Transfers.pointsTo_toks_join (ℓ := (aS 0).view.loc (c : Thread nD τ)) (S := (aS 0).view.set) (f := AM m ρ c) fullShare 16) $$ [Hdrop Htok0 Htok]
  · isplitl [Hdrop]; · iexact Hdrop
    iapply (Entails.of_eq (bigSep_succ (fun k : Fin 16 => aPts m ρ c 0 (shareTok fullShare 16 k))).symm)
    isplitl [Htok0] <;> iassumption
  rw [wp_bind]
  iapply (WP_wand c) $$ [Hro Hcr Hpar]
  · iapply (wp_seqL c aRecvP (fun _ => iprop(recs m ρ K ∗ ows c 15 15 0))
      (fun r => iprop(cred (tallyAt (arC c r.succ) () NA) ∗ atPos ER (arC c r.succ) 0 ∅ 0))
      (fun r => iprop(atPos ER (arC c r.succ) 1 ∅ 0 ∗ aPts m ρ c r.succ fullShare)) (aRecv_step m ρ K c))
    isplitl [Hro]; · iexact Hro
    iapply (Entails.of_eq (bigSep_sep' Finset.univ (fun r : Fin 15 => cred (tallyAt (arC c r.succ) () NA)) (fun r : Fin 15 => atPos ER (arC c r.succ) 0 ∅ 0)).symm)
    isplitl [Hcr] <;> iassumption
  iintro %_ ⟨Hro, Hb⟩
  ihave Hb := (Entails.of_eq (bigSep_sep' Finset.univ (fun r : Fin 15 => atPos ER (arC c r.succ) 1 ∅ 0) (fun r : Fin 15 => aPts m ρ c r.succ fullShare))) $$ Hb
  icases Hb with ⟨Hpar, Hal⟩
  ihave Hall := (Entails.of_eq ((bigSep_succ (fun k : Fin 16 => aPts m ρ c k fullShare)).symm.trans (aB_blocks m ρ c))) $$ [Ha0 Hal]
  · isplitl [Ha0]
    · unfold aPts; iexact Ha0
    iexact Hal
  simp only [Prog.lift]
  iapply (wp_load 𝒱₀ (c : Thread nD τ) none Set.univ (m := aB) (Finset.subset_univ _)) $$ Hall
  iintro Hall
  rw [show aB.view.readAt (Elt F) (Rect.unit (s := S16x8x128) ![0, 0, 0] S16x8x128.size inb_S16x8x128_S16x8x128_0_0_0).toLoadRect (AM m ρ c) = AM m ρ c from
    Memref.readAt_unit_zero (Elt F) cc0_scratch2 zero3 _ _]
  rw [wp_ret]; imodintro
  isplitr; · ipureintro; trivial
  isplitl [Hro]; · iexact Hro
  isplitl [Hpas]; · iexact Hpas
  isplitl [Hpar]; · iexact Hpar
  iapply (Entails.of_eq (aB_blocks m ρ c).symm)
  iexact Hall

/-! ## The tiles -/

theorem tiles_phase (c : Dev nD) :
    iprop((recs m ρ K ∗ ows c 15 15 0)
        ∗ (bigSep Finset.univ fun r : Fin 15 => iprop(dutyTok ER (tsC c r.succ) 0 0 ∗ dutyTok ER (trC (up c r) r.succ) 0 0))
        ∗ (bigSep Finset.univ fun b : Fin 16 => full c (yS b) (yv m ρ c b))
        ∗ (bigSep Finset.univ fun r : Fin 15 => hole (F := F) c (qS r.succ))
        ∗ (bigSep Finset.univ fun r : Fin 15 => hole (F := F) (up c r) (lS r.succ))
        ∗ (bigSep Finset.univ fun r : Fin 15 => atPos ER (tsC c r.succ) 0 ∅ 0)
        ∗ (bigSep Finset.univ fun r : Fin 15 => cred (tallyAt (trC c r.succ) () NT))
        ∗ (bigSep Finset.univ fun r : Fin 15 => atPos ER (trC c r.succ) 0 ∅ 0)
        ∗ bigSep Finset.univ fun b : Fin 16 => hole (F := F) c (oS b))
      ⊢ WP c (tilesP c (scl m ρ c)) (fun _ => iprop((recs m ρ K ∗ ows c 15 15 15)
        ∗ (bigSep Finset.univ fun b : Fin 16 => full c (yS b) (yv m ρ c b))
        ∗ (bigSep Finset.univ fun r : Fin 15 => hole (F := F) c (qS r.succ))
        ∗ (bigSep Finset.univ fun r : Fin 15 => hole (F := F) c (lS r.succ))
        ∗ (bigSep Finset.univ fun r : Fin 15 => atPos ER (tsC c r.succ) 1 ∅ 0)
        ∗ (bigSep Finset.univ fun r : Fin 15 => atPos ER (trC c r.succ) 1 ∅ 0)
        ∗ bigSep Finset.univ fun b : Fin 16 => full c (oS b) (ov m ρ c b))) := by
  rw [bigSep_up c (fun b => full c (yS b) (yv m ρ c b)), bigSep_up_rev c (fun b => hole (F := F) c (oS b)), bigSep_up_rev c (fun b => full c (oS b) (ov m ρ c b))]
  unfold tilesP
  iintro ⟨Hro, Ht, ⟨Hy, Hys⟩, Hq, Hl, Hps, Hcr, Hpr, ⟨Ho, Hos⟩⟩
  unfold WP; rw [wp_bind]
  iapply (WP_wand c) $$ [Hro Ht Hys Hq Hl]
  · iapply (wp_seqL c (tSendP c (scl m ρ c)) (fun n => iprop(recs m ρ K ∗ ows c 15 15 n))
      (fun r => iprop((dutyTok ER (tsC c r.succ) 0 0 ∗ dutyTok ER (trC (up c r) r.succ) 0 0) ∗ full c (yS (up c r)) (yv m ρ c (up c r))
        ∗ hole (F := F) c (qS r.succ) ∗ hole (F := F) (up c r) (lS r.succ)))
      (fun r => iprop(cred (tallyAt (tsC c r.succ) () NT) ∗ full c (yS (up c r)) (yv m ρ c (up c r)))) (tSend_step m ρ K c))
    isplitl [Hro]; · iexact Hro
    iapply (Entails.of_eq (bigSep_sep' Finset.univ (fun r : Fin 15 => iprop(dutyTok ER (tsC c r.succ) 0 0 ∗ dutyTok ER (trC (up c r) r.succ) 0 0))
      (fun r : Fin 15 => iprop(full c (yS (up c r)) (yv m ρ c (up c r)) ∗ hole (F := F) c (qS r.succ) ∗ hole (F := F) (up c r) (lS r.succ)))).symm)
    isplitl [Ht]; · iexact Ht
    iapply (Entails.of_eq (bigSep_sep' Finset.univ (fun r : Fin 15 => full c (yS (up c r)) (yv m ρ c (up c r)))
      (fun r : Fin 15 => iprop(hole (F := F) c (qS r.succ) ∗ hole (F := F) (up c r) (lS r.succ)))).symm)
    isplitl [Hys]; · iexact Hys
    iapply (Entails.of_eq (bigSep_sep' Finset.univ (fun r : Fin 15 => hole (F := F) c (qS r.succ)) (fun r : Fin 15 => hole (F := F) (up c r) (lS r.succ))).symm)
    isplitl [Hq] <;> iassumption
  iintro %_ ⟨Hro, Hb⟩
  ihave Hb := (Entails.of_eq (bigSep_sep' Finset.univ (fun r : Fin 15 => cred (tallyAt (tsC c r.succ) () NT)) (fun r : Fin 15 => full c (yS (up c r)) (yv m ρ c (up c r))))) $$ Hb
  icases Hb with ⟨Hcs, Hys⟩
  rw [wp_bind]
  iapply (WP_wand c) $$ [Hy Ho]
  · iapply (own_step m ρ c)
    isplitl [Hy] <;> iassumption
  iintro %_ ⟨Hy, Ho⟩
  rw [wp_bind]
  iapply (WP_wand c) $$ [Hro Hcr Hpr Hos]
  · iapply (wp_seqL c (tRecvP c (scl m ρ c)) (fun _ => iprop(recs m ρ K ∗ ows c 15 15 15))
      (fun r => iprop((cred (tallyAt (trC c r.succ) () NT) ∗ atPos ER (trC c r.succ) 0 ∅ 0) ∗ hole (F := F) c (oS (up c r.rev))))
      (fun r => iprop(atPos ER (trC c r.succ) 1 ∅ 0 ∗ hole (F := F) c (lS r.succ) ∗ full c (oS (up c r.rev)) (ov m ρ c (up c r.rev)))) (tRecv_step m ρ K c))
    isplitl [Hro]; · iexact Hro
    iapply (Entails.of_eq (bigSep_sep' Finset.univ (fun r : Fin 15 => iprop(cred (tallyAt (trC c r.succ) () NT) ∗ atPos ER (trC c r.succ) 0 ∅ 0)) (fun r : Fin 15 => hole (F := F) c (oS (up c r.rev)))).symm)
    isplitl [Hcr Hpr]
    · iapply (Entails.of_eq (bigSep_sep' Finset.univ (fun r : Fin 15 => cred (tallyAt (trC c r.succ) () NT)) (fun r : Fin 15 => atPos ER (trC c r.succ) 0 ∅ 0)).symm)
      isplitl [Hcr] <;> iassumption
    iexact Hos
  iintro %_ ⟨Hro, Hb⟩
  ihave Hb := (Entails.of_eq (bigSep_sep' Finset.univ (fun r : Fin 15 => atPos ER (trC c r.succ) 1 ∅ 0)
    (fun r : Fin 15 => iprop(hole (F := F) c (lS r.succ) ∗ full c (oS (up c r.rev)) (ov m ρ c (up c r.rev)))))) $$ Hb
  icases Hb with ⟨Hpr, Hb⟩
  ihave Hb := (Entails.of_eq (bigSep_sep' Finset.univ (fun r : Fin 15 => hole (F := F) c (lS r.succ)) (fun r : Fin 15 => full c (oS (up c r.rev)) (ov m ρ c (up c r.rev))))) $$ Hb
  icases Hb with ⟨Hl, Hos⟩
  iapply (WP_wand c) $$ [Hro Hcs Hps]
  · iapply (wp_seqL c tSentP (fun _ => iprop(recs m ρ K ∗ ows c 15 15 15))
      (fun r => iprop(cred (tallyAt (tsC c r.succ) () NT) ∗ atPos ER (tsC c r.succ) 0 ∅ 0))
      (fun r => iprop(atPos ER (tsC c r.succ) 1 ∅ 0 ∗ hole (F := F) c (qS r.succ))) (tSent_step m ρ K c))
    isplitl [Hro]; · iexact Hro
    iapply (Entails.of_eq (bigSep_sep' Finset.univ (fun r : Fin 15 => cred (tallyAt (tsC c r.succ) () NT)) (fun r : Fin 15 => atPos ER (tsC c r.succ) 0 ∅ 0)).symm)
    isplitl [Hcs] <;> iassumption
  iintro %_ ⟨Hro, Hb⟩
  ihave Hb := (Entails.of_eq (bigSep_sep' Finset.univ (fun r : Fin 15 => atPos ER (tsC c r.succ) 1 ∅ 0) (fun r : Fin 15 => hole (F := F) c (qS r.succ)))) $$ Hb
  icases Hb with ⟨Hps, Hq⟩
  isplitl [Hro]; · iexact Hro
  isplitl [Hy Hys]
  · isplitl [Hy] <;> iassumption
  isplitl [Hq]; · iexact Hq
  isplitl [Hl]; · iexact Hl
  isplitl [Hps]; · iexact Hps
  isplitl [Hpr]; · iexact Hpr
  isplitl [Ho] <;> iassumption

end Cert.KernelIdeal.Ring

end
-- ==== Proof.IdealWhole.lean ====
/- The buffers cut into their pieces and put together again, and the body from everything the launch hands it. -/
module

public import proofs.«01_k».proof.Proof.IdealBody

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option KI → ℕ)

/-! ## Pieces -/

section Cut
variable (c : Dev nD) (b : Ref sig .tc) {n : ℕ} (off : Fin n → Fin b.ty.shape.rank → ℕ) (size : Fin b.ty.shape.rank → ℕ) (inb : ∀ k a, off k a + size a ≤ b.ty.shape.size a)
  (hd : ∀ k k', k ≠ k' → Disjoint (Rect.unit (s := b.ty.shape) (off k) size (inb k)).set (Rect.unit (s := b.ty.shape) (off k') size (inb k')).set)
  (hc : Finset.univ.biUnion (fun k => (Rect.unit (s := b.ty.shape) (off k) size (inb k)).set) = Finset.univ)

include hd hc in
theorem cut : iprop(∃ f : Buf (Elt F) ((c : Thread nD τ).loc b), (c : Thread nD τ).loc b ↦{fullShare} f)
    ⊢ (bigSep Finset.univ fun k : Fin n => hole (F := F) c ((Memref.whole b).slice (Rect.unit (off k) size (inb k)) (fun _ => rfl)) : sProp 𝕄) := by
  refine Laws.exists_elim fun f => ?_
  refine (Entails.of_eq (Idealize.ShloMosaic.Ring.pointsTo_blocks (ℓ := (c : Thread nD τ).loc b) (fun k => (Rect.unit (s := b.ty.shape) (off k) size (inb k)).set) hd hc f)).trans
    (bigSep_mono fun k _ => ?_)
  unfold hole
  rw [show ((Memref.whole b).slice (Rect.unit (off k) size (inb k)) (fun _ => rfl)).view.set = (Rect.unit (s := b.ty.shape) (off k) size (inb k)).set from View.set_slice_whole b _]
  exact Laws.exists_intro (Φ := fun f : Buf (Elt F) ((c : Thread nD τ).loc b) => ((c : Thread nD τ).loc b ↦[(Rect.unit (s := b.ty.shape) (off k) size (inb k)).set]{fullShare} f : sProp 𝕄)) f

include hd hc in
theorem glue : (bigSep Finset.univ fun k : Fin n => hole (F := F) c ((Memref.whole b).slice (Rect.unit (off k) size (inb k)) (fun _ => rfl)) : sProp 𝕄)
    ⊢ iprop(∃ f : Buf (Elt F) ((c : Thread nD τ).loc b), (c : Thread nD τ).loc b ↦{fullShare} f) := by
  refine (Entails.of_eq (bigSep_congr fun k _ => ?_)).trans
    (Idealize.ShloMosaic.Ring.pointsTo_blocks_join_exists (ℓ := (c : Thread nD τ).loc b) (fun k => (Rect.unit (s := b.ty.shape) (off k) size (inb k)).set) hd hc
      (fun _ => Classical.choice inferInstance))
  unfold hole
  rw [show ((Memref.whole b).slice (Rect.unit (off k) size (inb k)) (fun _ => rfl)).view.set = (Rect.unit (s := b.ty.shape) (off k) size (inb k)).set from View.set_slice_whole b _]
end Cut

theorem dY (k k' : Fin 16) (h : k ≠ k') : Disjoint (rY k).set (rY k').set :=
  Idealize.ShloMosaic.Ring.lead_disjoint (s := S16x256x512) 0 1 (fun k : Fin 16 => ![k.val, 0, 0]) S1x256x512.size inbY (fun b => (Nat.one_mul _).symm) rfl k k' h
theorem cY : Finset.univ.biUnion (fun k => (rY k).set) = Finset.univ :=
  Idealize.ShloMosaic.Ring.lead_cover (s := S16x256x512) 0 1 (fun k : Fin 16 => ![k.val, 0, 0]) S1x256x512.size inbY (fun b => (Nat.one_mul _).symm)
    (by intro b a ha; fin_cases a <;> first | rfl | exact absurd rfl ha) rfl (by decide) rfl
theorem dA (k k' : Fin 16) (h : k ≠ k') : Disjoint (rA k).set (rA k').set :=
  Idealize.ShloMosaic.Ring.lead_disjoint (s := S16x8x128) 0 1 (fun k : Fin 16 => ![k.val, 0, 0]) S1x8x128.size inbA (fun b => (Nat.one_mul _).symm) rfl k k' h
theorem cA : Finset.univ.biUnion (fun k => (rA k).set) = Finset.univ :=
  Idealize.ShloMosaic.Ring.lead_cover (s := S16x8x128) 0 1 (fun k : Fin 16 => ![k.val, 0, 0]) S1x8x128.size inbA (fun b => (Nat.one_mul _).symm)
    (by intro b a ha; fin_cases a <;> first | rfl | exact absurd rfl ha) rfl (by decide) rfl
theorem dW (k k' : Fin 2) (h : k ≠ k') : Disjoint (rW k).set (rW k').set :=
  Idealize.ShloMosaic.Ring.lead_disjoint (s := S2x4096x512) 0 1 (fun k : Fin 2 => ![k.val, 0, 0]) S1x4096x512.size inbW (fun b => (Nat.one_mul _).symm) rfl k k' h
theorem cW : Finset.univ.biUnion (fun k => (rW k).set) = Finset.univ :=
  Idealize.ShloMosaic.Ring.lead_cover (s := S2x4096x512) 0 1 (fun k : Fin 2 => ![k.val, 0, 0]) S1x4096x512.size inbW (fun b => (Nat.one_mul _).symm)
    (by intro b a ha; fin_cases a <;> first | rfl | exact absurd rfl ha) rfl (by decide) rfl
/-- Row block `b` of the result. -/
abbrev rO (b : Fin 16) : Rect S4096x512 := Rect.unit ![256 * b.val, 0] S256x512.size (inbO b)
theorem dO (k k' : Fin 16) (h : k ≠ k') : Disjoint (rO k).set (rO k').set :=
  Idealize.ShloMosaic.Ring.lead_disjoint (s := S4096x512) 0 256 (fun k : Fin 16 => ![256 * k.val, 0]) S256x512.size inbO (fun b => rfl) rfl k k' h
theorem cO : Finset.univ.biUnion (fun k => (rO k).set) = Finset.univ :=
  Idealize.ShloMosaic.Ring.lead_cover (s := S4096x512) 0 256 (fun k : Fin 16 => ![256 * k.val, 0]) S256x512.size inbO (fun b => rfl)
    (by intro b a ha; fin_cases a <;> first | rfl | exact absurd rfl ha) rfl (by decide) rfl
theorem dH (k k' : Fin 16) (h : k ≠ k') : Disjoint (rH k).set (rH k').set :=
  Idealize.ShloMosaic.Ring.lead_disjoint (s := S4096x8192) 1 512 (fun k : Fin 16 => ![0, k.val * 512]) S4096x512.size inbH (fun b => Nat.mul_comm _ _) rfl k k' h
theorem cH : Finset.univ.biUnion (fun k => (rH k).set) = Finset.univ :=
  Idealize.ShloMosaic.Ring.lead_cover (s := S4096x8192) 1 512 (fun k : Fin 16 => ![0, k.val * 512]) S4096x512.size inbH (fun b => Nat.mul_comm _ _)
    (by intro b a ha; fin_cases a <;> first | rfl | exact absurd rfl ha) rfl (by decide) rfl

section Bufs
variable (c : Dev nD)
abbrev some1 (b : Ref sig .tc) : sProp 𝕄 := iprop(∃ f : Buf (Elt F) ((c : Thread nD τ).loc b), (c : Thread nD τ).loc b ↦{fullShare} f)

theorem w_cut : some1 (F := F) c cc0_scratch0 ⊢ iprop(hole (F := F) c (wS 0) ∗ hole (F := F) c (wS 1)) := by
  rw [hole_squeeze c (M := wB.slice (rW 0) (fun _ => rfl)), hole_squeeze c (M := wB.slice (rW 1) (fun _ => rfl))]
  exact (cut c cc0_scratch0 _ _ inbW dW cW).trans (Entails.of_eq (bigSep_univ_eq_bigSepL [0, 1] (by decide) (by decide) _))
theorem w_glue : iprop(hole (F := F) c (wS 0) ∗ hole (F := F) c (wS 1)) ⊢ some1 (F := F) c cc0_scratch0 := by
  rw [hole_squeeze c (M := wB.slice (rW 0) (fun _ => rfl)), hole_squeeze c (M := wB.slice (rW 1) (fun _ => rfl))]
  exact (Entails.of_eq (bigSep_univ_eq_bigSepL (M := MT nD τ sig Unit (Elt F) ℕ UU ℕ) [0, 1] (by decide) (by decide) (fun k : Fin 2 => hole (F := F) c (wB.slice (rW k) (fun _ => rfl)))).symm).trans (glue c cc0_scratch0 _ _ inbW dW cW)
theorem y_cut : some1 (F := F) c cc0_scratch1 ⊢ bigSep Finset.univ fun k : Fin 16 => hole (F := F) c (yS k) := cut c cc0_scratch1 _ _ inbY dY cY
theorem y_glue : (bigSep Finset.univ fun k : Fin 16 => hole (F := F) c (yS k)) ⊢ some1 (F := F) c cc0_scratch1 := glue c cc0_scratch1 _ _ inbY dY cY
theorem a_cut : some1 (F := F) c cc0_scratch2 ⊢ bigSep Finset.univ fun k : Fin 16 => hole (F := F) c (aS k) := by
  rw [bigSep_congr fun k _ => hole_squeeze c (M := aB.slice (rA k) (fun _ => rfl)) squeezes_S1x8x128_S8x128]
  exact cut c cc0_scratch2 _ _ inbA dA cA
theorem q_cut : some1 (F := F) c cc0_scratch3 ⊢ bigSep Finset.univ fun k : Fin 16 => hole (F := F) c (qS k) := by
  rw [bigSep_congr fun k _ => hole_squeeze c (M := qB.slice (rY k) (fun _ => rfl)) squeezes_S1x256x512_S256x512]
  exact cut c cc0_scratch3 _ _ inbY dY cY
theorem q_glue : (bigSep Finset.univ fun k : Fin 16 => hole (F := F) c (qS k)) ⊢ some1 (F := F) c cc0_scratch3 := by
  rw [bigSep_congr fun k _ => hole_squeeze c (M := qB.slice (rY k) (fun _ => rfl)) squeezes_S1x256x512_S256x512]
  exact glue c cc0_scratch3 _ _ inbY dY cY
theorem l_cut : some1 (F := F) c cc0_scratch4 ⊢ bigSep Finset.univ fun k : Fin 16 => hole (F := F) c (lS k) := by
  rw [bigSep_congr fun k _ => hole_squeeze c (M := lB.slice (rY k) (fun _ => rfl)) squeezes_S1x256x512_S256x512]
  exact cut c cc0_scratch4 _ _ inbY dY cY
theorem l_glue : (bigSep Finset.univ fun k : Fin 16 => hole (F := F) c (lS k)) ⊢ some1 (F := F) c cc0_scratch4 := by
  rw [bigSep_congr fun k _ => hole_squeeze c (M := lB.slice (rY k) (fun _ => rfl)) squeezes_S1x256x512_S256x512]
  exact glue c cc0_scratch4 _ _ inbY dY cY
theorem o_cut : some1 (F := F) c cc0_stg1_0 ⊢ bigSep Finset.univ fun k : Fin 16 => hole (F := F) c (oS k) := cut c cc0_stg1_0 _ _ inbO dO cO

theorem w_tiles : (bigSep Finset.univ fun j : Fin 16 => wTile m ρ c j) = ((c : Thread nD τ).loc main_arg1 ↦{fullShare} w1 m ρ c : sProp 𝕄) := by
  refine Eq.trans (bigSep_congr fun j _ => ?_) (Idealize.ShloMosaic.Ring.pointsTo_blocks (ℓ := (c : Thread nD τ).loc main_arg1) (fun j : Fin 16 => (rH j).set) dH cH (w1 m ρ c)).symm
  unfold wTile
  rw [show (wT j).view.set = (rH j).set from View.set_slice_whole main_arg1 (rH j)]

/-! ## The result -/

theorem pos_S256x512 : ∀ a, 0 < S256x512.size a := by decide
/-- A place within its row block. -/
def oIdx (i : S4096x512.Idx) : S256x512.Idx := fun a => ⟨(i a).val % S256x512.size a, Nat.mod_lt _ (pos_S256x512 a)⟩
/-- The result of device `c`. -/
def outAt : (cc0_stg1_0 : Ref sig .tc).ty.Contents (Elt F) := fun i : S4096x512.Idx => ov m ρ c (ix16 ((i 0).val / 256)) (oIdx i)

theorem oS_emb (b : Fin 16) (x : S256x512.Idx) (a) : (((oS b).view.emb x : S4096x512.Idx) a).val = (![256 * b.val, 0] : Fin 2 → ℕ) a + (x a).val := by
  have h : (((oS b).view.emb x : S4096x512.Idx) a).val = (![256 * b.val, 0] : Fin 2 → ℕ) a + 1 * (x a).val := rfl
  rw [h, Nat.one_mul]
theorem oS_ix (b : Fin 16) (x : S256x512.Idx) : ix16 ((((oS b).view.emb x : S4096x512.Idx) 0).val / 256) = b := by
  have h0 : (x 0).val < 256 := (x 0).isLt
  refine Fin.ext ?_
  rw [ix16_val, oS_emb]
  show (256 * b.val + (x 0).val) / 256 % 16 = b.val
  have := b.isLt
  omega
theorem oS_idx (b : Fin 16) (x : S256x512.Idx) : oIdx ((oS b).view.emb x) = x := by
  funext a
  refine Fin.ext ?_
  show (((oS b).view.emb x : S4096x512.Idx) a).val % S256x512.size a = (x a).val
  rw [oS_emb]
  have h0 := (x a).isLt
  revert h0
  fin_cases a
  · intro h0
    have h0 : (x 0).val < 256 := h0
    show (256 * b.val + (x 0).val) % 256 = (x 0).val
    omega
  · intro h0
    have h0 : (x 1).val < 512 := h0
    show (0 + (x 1).val) % 512 = (x 1).val
    omega
theorem oS_read (b : Fin 16) : (oS b).view.read (Elt F) (outAt m ρ c) = ov m ρ c b := by
  funext x
  show ov m ρ c (ix16 ((((oS b).view.emb x : S4096x512.Idx) 0).val / 256)) (oIdx ((oS b).view.emb x)) = _
  rw [oS_ix, oS_idx]

theorem o_glue : (bigSep Finset.univ fun b : Fin 16 => full c (oS b) (ov m ρ c b)) ⊢ ((c : Thread nD τ).loc cc0_stg1_0 ↦{fullShare} outAt m ρ c : sProp 𝕄) := by
  refine BIBase.Entails.trans (bigSep_mono fun b _ => ?_) (Entails.of_eq (Idealize.ShloMosaic.Ring.pointsTo_blocks (ℓ := (c : Thread nD τ).loc cc0_stg1_0) (fun b : Fin 16 => (Rect.unit (s := S4096x512) ![256 * b.val, 0] S256x512.size (inbO b)).set) dO cO (outAt m ρ c)).symm)
  refine (full_pts c (oS b) (ov m ρ c b) (outAt m ρ c) (oS_read m ρ c b)).trans ?_
  rw [show (oS b).view.set = (Rect.unit (s := S4096x512) ![256 * b.val, 0] S256x512.size (inbO b)).set from View.set_slice_whole cc0_stg1_0 _]
end Bufs

/-! ## Cells, one by one -/

theorem bigSep_cells (Φ : Option KI → sProp 𝕄) : bigSep Finset.univ Φ
    = iprop(Φ none ∗ (Φ (some (.inl 0)) ∗ Φ (some (.inl 1)))
      ∗ (Φ (some (.inr (0, 0))) ∗ bigSep Finset.univ fun r : Fin 15 => Φ (some (.inr (0, r.succ))))
      ∗ (Φ (some (.inr (1, 0))) ∗ bigSep Finset.univ fun r : Fin 15 => Φ (some (.inr (1, r.succ))))
      ∗ (Φ (some (.inr (2, 0))) ∗ bigSep Finset.univ fun r : Fin 15 => Φ (some (.inr (2, r.succ))))
      ∗ (Φ (some (.inr (3, 0))) ∗ bigSep Finset.univ fun r : Fin 15 => Φ (some (.inr (3, r.succ))))) := by
  rw [BI.bigSep_univ_split (none : Option KI), show (Finset.univ : Finset (Option KI)).erase none = Finset.univ.map Function.Embedding.some from by
      ext x; cases x <;> simp, bigSep_map, BI.bigSep_univ_sum, bigSep_univ_prod,
    bigSep_univ_eq_bigSepL (M := MT nD τ sig Unit (Elt F) ℕ UU ℕ) [(0 : Fin 2), 1] (by decide) (by decide) _,
    bigSep_univ_eq_bigSepL (M := MT nD τ sig Unit (Elt F) ℕ UU ℕ) [(0 : Fin 4), 1, 2, 3] (by decide) (by decide) _]
  have h := fun f : Fin 4 => bigSep_succ (fun k : Fin 16 => Φ (some (.inr (f, k))))
  rw [← h 0, ← h 1, ← h 2, ← h 3]
  rfl

end Cert.KernelIdeal.Ring

end
-- ==== Proof.IdealRun.lean ====
/- The body, from everything the launch hands it to everything it hands back. -/
module

public import proofs.«01_k».proof.Proof.IdealWhole

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option KI → ℕ)

/-- The tokens of what device `c` pays. -/
def toksC (c : Dev nD) : sProp 𝕄 :=
  iprop((bigSep Finset.univ fun r : Fin 15 => dutyTok ER (barC (up c r)) 0 r)
    ∗ (bigSep Finset.univ fun j : Fin 16 => wTok (F := F) c j)
    ∗ (bigSep Finset.univ fun r : Fin 15 => iprop(dutyTok ER (asC c r.succ) 0 0 ∗ dutyTok ER (arC (up c r) r.succ) 0 0))
    ∗ (bigSep Finset.univ fun r : Fin 15 => iprop(dutyTok ER (tsC c r.succ) 0 0 ∗ dutyTok ER (trC (up c r) r.succ) 0 0)))
/-- The credits it is launched with. -/
def credsC (c : Dev nD) : sProp 𝕄 :=
  iprop(cred (tallyAt (barC c) () 15)
    ∗ (bigSep Finset.univ fun r : Fin 15 => cred (tallyAt (arC c r.succ) () NA))
    ∗ (bigSep Finset.univ fun r : Fin 15 => cred (tallyAt (trC c r.succ) () NT)))
/-- Its place in the rounds of each of its cells. -/
def posC (c : Dev nD) (R : Option KI → ℕ) : sProp 𝕄 := bigSep Finset.univ fun x : Option KI => atPos ER (kcell c x) (R x) ∅ 0
/-- Its scratch buffers, whatever they hold. -/
def scrC (c : Dev nD) : sProp 𝕄 :=
  iprop(some1 (F := F) c cc0_scratch0 ∗ some1 (F := F) c cc0_scratch1 ∗ some1 (F := F) c cc0_scratch2 ∗ some1 (F := F) c cc0_scratch3 ∗ some1 (F := F) c cc0_scratch4)
/-- Its weights. -/
def wPt (c : Dev nD) : sProp 𝕄 := (c : Thread nD τ).loc main_arg1 ↦{fullShare} w1 m ρ c

theorem posC_eq (c : Dev nD) (R : Option KI → ℕ) (h : ∀ f (r : Fin 15), R (some (.inr (f, r.succ))) = R (some (.inr (f, 1)))) : posC (F := F) c R
    = iprop(atPos ER (barC c) (R none) ∅ 0 ∗ (atPos ER (wC c 0) (R (some (.inl 0))) ∅ 0 ∗ atPos ER (wC c 1) (R (some (.inl 1))) ∅ 0)
      ∗ (atPos ER (asC c 0) (R (some (.inr (0, 0)))) ∅ 0 ∗ bigSep Finset.univ fun r : Fin 15 => atPos ER (asC c r.succ) (R (some (.inr (0, 1)))) ∅ 0)
      ∗ (atPos ER (arC c 0) (R (some (.inr (1, 0)))) ∅ 0 ∗ bigSep Finset.univ fun r : Fin 15 => atPos ER (arC c r.succ) (R (some (.inr (1, 1)))) ∅ 0)
      ∗ (atPos ER (tsC c 0) (R (some (.inr (2, 0)))) ∅ 0 ∗ bigSep Finset.univ fun r : Fin 15 => atPos ER (tsC c r.succ) (R (some (.inr (2, 1)))) ∅ 0)
      ∗ (atPos ER (trC c 0) (R (some (.inr (3, 0)))) ∅ 0 ∗ bigSep Finset.univ fun r : Fin 15 => atPos ER (trC c r.succ) (R (some (.inr (3, 1)))) ∅ 0)) := by
  unfold posC
  rw [bigSep_cells]
  simp only [h]
theorem posC_0 (c : Dev nD) : posC (F := F) c (fun _ => 0)
    = iprop(atPos ER (barC c) 0 ∅ 0 ∗ (atPos ER (wC c 0) 0 ∅ 0 ∗ atPos ER (wC c 1) 0 ∅ 0)
      ∗ (atPos ER (asC c 0) 0 ∅ 0 ∗ bigSep Finset.univ fun r : Fin 15 => atPos ER (asC c r.succ) 0 ∅ 0)
      ∗ (atPos ER (arC c 0) 0 ∅ 0 ∗ bigSep Finset.univ fun r : Fin 15 => atPos ER (arC c r.succ) 0 ∅ 0)
      ∗ (atPos ER (tsC c 0) 0 ∅ 0 ∗ bigSep Finset.univ fun r : Fin 15 => atPos ER (tsC c r.succ) 0 ∅ 0)
      ∗ (atPos ER (trC c 0) 0 ∅ 0 ∗ bigSep Finset.univ fun r : Fin 15 => atPos ER (trC c r.succ) 0 ∅ 0)) :=
  posC_eq c (fun _ => 0) (fun _ _ => rfl)
theorem posC_end (c : Dev nD) : posC (F := F) c endR
    = iprop(atPos ER (barC c) 1 ∅ 0 ∗ (atPos ER (wC c 0) 8 ∅ 0 ∗ atPos ER (wC c 1) 8 ∅ 0)
      ∗ (atPos ER (asC c 0) 0 ∅ 0 ∗ bigSep Finset.univ fun r : Fin 15 => atPos ER (asC c r.succ) 1 ∅ 0)
      ∗ (atPos ER (arC c 0) 0 ∅ 0 ∗ bigSep Finset.univ fun r : Fin 15 => atPos ER (arC c r.succ) 1 ∅ 0)
      ∗ (atPos ER (tsC c 0) 0 ∅ 0 ∗ bigSep Finset.univ fun r : Fin 15 => atPos ER (tsC c r.succ) 1 ∅ 0)
      ∗ (atPos ER (trC c 0) 0 ∅ 0 ∗ bigSep Finset.univ fun r : Fin 15 => atPos ER (trC c r.succ) 1 ∅ 0)) :=
  posC_eq c endR (fun f r => show (if r.succ = (0 : Fin 16) then 0 else 1) = (if (1 : Fin 16) = 0 then 0 else 1) by rw [if_neg (Fin.succ_ne_zero r)]; rfl)

theorem wIdle_0 (c : Dev nD) : iprop(recs m ρ K ∗ hole (F := F) c (wS 0) ∗ atPos ER (wC c 0) 0 ∅ 0) ⊢ wIdle (F := F) c 0 := by
  unfold wIdle
  rw [show pr 0 = 0 from Fin.ext (by rw [pr_val]; rfl)]
  iintro ⟨#HR, Hh, Ha⟩
  isplitl [Hh]; · iexact Hh
  isplitl [Ha]; · iexact Ha
  iapply (reached_at m ρ K c (some (.inl 0))); iexact HR
theorem wIdle_1 (c : Dev nD) : iprop(recs m ρ K ∗ hole (F := F) c (wS 1) ∗ atPos ER (wC c 1) 0 ∅ 0) ⊢ wIdle (F := F) c 1 := by
  unfold wIdle
  rw [show pr 1 = 1 from Fin.ext (by rw [pr_val]; rfl)]
  iintro ⟨#HR, Hh, Ha⟩
  isplitl [Hh]; · iexact Hh
  isplitl [Ha]; · iexact Ha
  iapply (reached_at m ρ K c (some (.inl 1))); iexact HR
theorem wIdle_16 (c : Dev nD) : wIdle (F := F) c 16 ⊢ iprop(hole (F := F) c (wS 0) ∗ atPos ER (wC c 0) 8 ∅ 0) := by
  unfold wIdle
  rw [show pr 16 = 0 from Fin.ext (by rw [pr_val]; rfl)]
  iintro ⟨Hh, Ha, -⟩
  isplitl [Hh] <;> iassumption
theorem wIdle_17 (c : Dev nD) : wIdle (F := F) c 17 ⊢ iprop(hole (F := F) c (wS 1) ∗ atPos ER (wC c 1) 8 ∅ 0) := by
  unfold wIdle
  rw [show pr 17 = 1 from Fin.ext (by rw [pr_val]; rfl)]
  iintro ⟨Hh, Ha, -⟩
  isplitl [Hh] <;> iassumption

theorem full_holes (c : Dev nD) : (bigSep Finset.univ fun b : Fin 16 => full c (yS b) (yv m ρ c b)) ⊢ bigSep Finset.univ fun b : Fin 16 => hole (F := F) c (yS b) :=
  bigSep_mono fun b _ => full_hole c (yS b) (yv m ρ c b)

theorem run_body (c : Dev nD) :
    iprop((recs m ρ K ∗ ows c 0 0 0) ∗ toksC (F := F) c ∗ credsC (F := F) c ∗ posC (F := F) c (fun _ => 0) ∗ wPt m ρ c ∗ scrC (F := F) c ∗ xPt m ρ c ∗ some1 (F := F) c cc0_stg1_0)
      ⊢ WP c bodyP (fun _ => iprop((recs m ρ K ∗ ows c 15 15 15) ∗ posC (F := F) c endR ∗ wPt m ρ c ∗ scrC (F := F) c ∗ xPt m ρ c
        ∗ ((c : Thread nD τ).loc cc0_stg1_0 ↦{fullShare} outAt m ρ c))) := by
  rw [bodyP_eq, posC_0, posC_end]
  unfold toksC credsC wPt scrC
  rw [← w_tiles m ρ c]
  iintro ⟨⟨#HR, Hro⟩, ⟨HtB, HtW, HtA, HtT⟩, ⟨HcB, HcA, HcT⟩, ⟨HpB, ⟨HpW0, HpW1⟩, ⟨HpS0, HpS⟩, ⟨HpR0, HpR⟩, ⟨HqS0, HqS⟩, ⟨HqR0, HqR⟩⟩, Hw, ⟨Hs0, Hs1, Hs2, Hs3, Hs4⟩, Hx, Ho⟩
  ihave Hs0 := (w_cut c) $$ Hs0
  icases Hs0 with ⟨Hw0, Hw1⟩
  ihave Hy := (y_cut c) $$ Hs1
  ihave Ha := (a_cut c) $$ Hs2
  ihave Ha := (Entails.of_eq (bigSep_succ (fun k : Fin 16 => hole (F := F) c (aS k)))) $$ Ha
  icases Ha with ⟨Ha0, Ha⟩
  ihave Hq := (q_cut c) $$ Hs3
  ihave Hq := (Entails.of_eq (bigSep_succ (fun k : Fin 16 => hole (F := F) c (qS k)))) $$ Hq
  icases Hq with ⟨Hq0, Hq⟩
  ihave Hl := (l_cut c) $$ Hs4
  ihave Hl := (Entails.of_eq (bigSep_succ (fun k : Fin 16 => hole (F := F) c (lS k)))) $$ Hl
  icases Hl with ⟨Hl0, Hl⟩
  ihave Ho := (o_cut c) $$ Ho
  unfold WP
  simp only [Prog.lift, Prog.bind_op, Prog.bind_ret, wp_deviceId]
  rw [wp_bind]
  iapply (WP_wand c) $$ [Hro HtB Ha Hl HcB HpB]
  · iapply (bar_phase m ρ K c)
    isplitl [Hro]
    · isplitr; · iexact HR
      iexact Hro
    isplitl [HtB]; · iexact HtB
    isplitl [Ha]; · iexact Ha
    isplitl [Hl]; · iexact Hl
    isplitl [HcB] <;> iassumption
  iintro %_ ⟨Hro, HpB, Ha, Hl⟩
  rw [wp_bind]
  ihave Hw0 := (wIdle_0 m ρ K c) $$ [Hw0 HpW0]
  · isplitr; · iexact HR
    isplitl [Hw0] <;> iassumption
  ihave Hw1 := (wIdle_1 m ρ K c) $$ [Hw1 HpW1]
  · isplitr; · iexact HR
    isplitl [Hw1] <;> iassumption
  iapply (WP_wand c) $$ [Hro Hw0 Hw1 Hx HtW Hw Hy]
  · iapply (prods_step m ρ K c)
    isplitl [Hro]; · iexact Hro
    isplitl [Hw0]; · iexact Hw0
    isplitl [Hw1]; · iexact Hw1
    isplitl [Hx]; · iexact Hx
    isplitl [HtW Hw]
    · iapply (Entails.of_eq (bigSep_sep' Finset.univ (fun j : Fin 16 => wTok (F := F) c j) (fun j : Fin 16 => wTile m ρ c j)).symm)
      isplitl [HtW] <;> iassumption
    iexact Hy
  iintro %a ⟨%ha, Hro, Hw0, Hw1, Hx, Hwy⟩
  subst ha
  ihave Hwy := (Entails.of_eq (bigSep_sep' Finset.univ (fun j : Fin 16 => wTile m ρ c j) (fun j : Fin 16 => full c (yS j) (yv m ρ c j)))) $$ Hwy
  icases Hwy with ⟨Hw, Hy⟩
  rw [wp_bind]
  iapply (WP_wand c) $$ [Hro Ha0 HtA Ha HpS HcA HpR]
  · iapply (max_phase m ρ K c)
    isplitl [Hro]; · iexact Hro
    isplitl [Ha0]; · iexact Ha0
    isplitl [HtA]; · iexact HtA
    isplitl [Ha]; · iexact Ha
    isplitl [HpS]; · iexact HpS
    isplitl [HcA] <;> iassumption
  iintro %v ⟨%hv, Hro, HpS, HpR, Ha⟩
  subst hv
  iapply (WP_wand c) $$ [Hro HtT Hy Hq Hl HqS HcT HqR Ho]
  · iapply (tiles_phase m ρ K c)
    isplitl [Hro]; · iexact Hro
    isplitl [HtT]; · iexact HtT
    isplitl [Hy]; · iexact Hy
    isplitl [Hq]; · iexact Hq
    isplitl [Hl]; · iexact Hl
    isplitl [HqS]; · iexact HqS
    isplitl [HcT]; · iexact HcT
    isplitl [HqR] <;> iassumption
  iintro %_ ⟨Hro, Hy, Hq, Hl, HqS, HqR, Ho⟩
  ihave Hw0 := (wIdle_16 c) $$ Hw0
  icases Hw0 with ⟨Hw0, HpW0⟩
  ihave Hw1 := (wIdle_17 c) $$ Hw1
  icases Hw1 with ⟨Hw1, HpW1⟩
  isplitl [Hro]; · iexact Hro
  isplitl [HpB HpW0 HpW1 HpS0 HpS HpR0 HpR HqS0 HqS HqR0 HqR]
  · isplitl [HpB]; · iexact HpB
    isplitl [HpW0 HpW1]
    · isplitl [HpW0] <;> iassumption
    isplitl [HpS0 HpS]
    · isplitl [HpS0] <;> iassumption
    isplitl [HpR0 HpR]
    · isplitl [HpR0] <;> iassumption
    isplitl [HqS0 HqS]
    · isplitl [HqS0] <;> iassumption
    isplitl [HqR0] <;> iassumption
  isplitl [Hw]; · iexact Hw
  isplitl [Hw0 Hw1 Hy Ha Hq0 Hq Hl0 Hl]
  · isplitl [Hw0 Hw1]
    · iapply (w_glue c)
      isplitl [Hw0] <;> iassumption
    isplitl [Hy]
    · iapply (y_glue c)
      iapply (full_holes m ρ c); iexact Hy
    isplitl [Ha]
    · ihave Ha := (Entails.of_eq (aB_blocks m ρ c)) $$ Ha
      iexists _; iexact Ha
    isplitl [Hq0 Hq]
    · iapply (q_glue c)
      iapply (Entails.of_eq (bigSep_succ (fun k : Fin 16 => hole (F := F) c (qS k))).symm)
      isplitl [Hq0] <;> iassumption
    iapply (l_glue c)
    iapply (Entails.of_eq (bigSep_succ (fun k : Fin 16 => hole (F := F) c (lS k))).symm)
    isplitl [Hl0] <;> iassumption
  isplitl [Hx]; · iexact Hx
  iapply (o_glue m ρ c); iexact Ho

end Cert.KernelIdeal.Ring

end
-- ==== Proof.IdealLaunch.lean ====
/- The launch: what each device starts with, and what the whole run ends with. -/
module

public import proofs.«01_k».proof.Proof.IdealRun
public import proofs.«01_k».proof.Proof.Gen.KernelIdeal.Launch
public import proofs.«01_k».proof.Proof.Gen.KernelIdeal.Points
public import Idealize.ShloMosaic.Lib.Pipeline.CollectiveSegs
public import Idealize.ShloMosaic.Lib.Quiescent

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option KI → ℕ)

/-! ## What the pipeline carries -/

/-- What a device's body starts with beside its buffers. -/
def start (c : Dev nD) : sProp 𝕄 :=
  iprop((∃ K, recs m ρ K) ∗ toksC (F := F) c ∗ credsC (F := F) c ∗ posC (F := F) c (fun _ => 0) ∗ wPt m ρ c)
/-- What it holds when done: its scratch, its semaphores at zero, its weights as they were. -/
def done (c : Dev nD) : sProp 𝕄 :=
  iprop(scrC (F := F) c ∗ (bigSep Finset.univ fun x : Option KI => semVal (kcell c x) 0) ∗ wPt m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => iprop(start m ρ c ∗ scrC (F := F) c)
    | ⟨_ + 1, _⟩ => done m ρ c
  q _ := fullShare
  owed t := match t with
    | ⟨0, _⟩ => oweD c 0 0 0
    | ⟨_ + 1, _⟩ => 0

theorem fetch_x (t : Fin cfg0.N) : (cfg0.win (0 : Fin 2)).fetch t = true := fetch0_0 t

/-- A whole buffer at contents `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

theorem close_cells (c : Dev nD) : iprop(recs m ρ K ∗ posC (F := F) c endR) ⊢ |={Set.univ}=> (bigSep Finset.univ fun x : Option KI => semVal (kcell c x) 0 : sProp 𝕄) := by
  refine BIBase.Entails.trans ?_ (Rounds.cells_close ER (Rd m ρ) (Finset.univ : Finset (Option KI)) (fun x => kcell c x) (fun x => K (c, x))
    (fun _ _ => Set.mem_univ _) (fun _ _ h => h) endR (fun x _ r h => duties_end m ρ c x r h))
  unfold posC
  refine BIBase.Entails.trans ?_ (Entails.of_eq (bigSep_sep' Finset.univ (fun x : Option KI => cellInv ER (Rd m ρ) (K (c, x)) (kcell c x)) (fun x : Option KI => atPos ER (kcell c x) (endR x) ∅ 0)).symm)
  iintro ⟨#HR, Hp⟩
  isplitr
  · iapply (BI.bigSep_intro_persistent (R := recs m ρ K) fun x _ => inv_at m ρ K c x); iexact HR
  iexact Hp

def bodyPre (c : Dev nD) : sProp 𝕄 :=
  iprop((start m ρ c ∗ scrC (F := F) c) ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(done m ρ c ∗ (dats m ρ 0 c).owesAt () t0_0.succ ∗ stg c cc0_stg0_0 (xstg m ρ c) ∗ stg c cc0_stg1_0 (outAt m ρ c))

theorem sound_body (c : Dev nD) : bodyPre m ρ c ⊢ WP c bodyP (fun _ => bodyPost m ρ c) := by
  unfold bodyPre start Dat.owesAt Pipeline.owesWithin
  iintro ⟨⟨⟨⟨%K, #HR⟩, Ht, Hc, Hp, Hw⟩, Hs⟩, ⟨%W, %hW, HO⟩, ⟨%d0, %g0, %hg0, Hx⟩, ⟨%d1, %g1, %hg1, Hout⟩⟩
  have hx : g0 = xstg m ρ c := by rw [hg0]; unfold Dat.before; rw [if_pos (fetch_x t0_0)]; rfl
  subst hx
  unfold WP
  iapply (wp_fupd frame (wpE (defs₀ (F := F)) 𝒱₀ (c : Thread nD τ) none) Set.univ)
  iapply (WP_wand c) $$ [Ht Hc Hp Hw Hs HO Hx Hout]
  · iapply (run_body m ρ K c)
    isplitl [HO]
    · isplitr; · iexact HR
      unfold ows; iexists W; iexact HO
    isplitl [Ht]; · iexact Ht
    isplitl [Hc]; · iexact Hc
    isplitl [Hp]; · iexact Hp
    isplitl [Hw]; · iexact Hw
    isplitl [Hs]; · iexact Hs
    isplitl [Hx]; · unfold xPt; iexact Hx
    iexists _; iexact Hout
  iintro %_ ⟨⟨-, HO⟩, Hp, Hw, Hs, Hx, Hout⟩
  imod (close_cells m ρ K c) $$ [Hp] with Hz
  · isplitr; · iexact HR
    iexact Hp
  imodintro
  unfold bodyPost done Dat.owesAt Pipeline.owesWithin ows
  rw [show (dats m ρ 0 c).owed t0_0.succ = 0 from rfl, oweD_end]
  isplitl [Hs Hz Hw]
  · isplitl [Hs]; · iexact Hs
    isplitl [Hz] <;> iassumption
  isplitl [HO]
  · icases HO with ⟨%W', HO⟩
    iexists W'
    isplitr; · ipureintro; exact fun _ _ => Or.inl trivial
    iexact HO
  isplitl [Hx]
  · iexists _; isplitr; · (ipureintro; rfl)
    unfold xPt; iexact Hx
  iexists _; isplitr; · (ipureintro; rfl)
  iexact Hout

/-- What the pipeline asks of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (F := F) xM (Memref.isWhole_whole _) wH (Memref.isWhole_whole _) oM (Memref.isWhole_whole _) wB (Memref.isWhole_whole _)
    yB (Memref.isWhole_whole _) aB (Memref.isWhole_whole _) qB (Memref.isWhole_whole _) lB (Memref.isWhole_whole _)
    cc0_scratch5 cc0_scratch6 cc0_scratch7 cc0_scratch8 cc0_scratch9) (fun _ => bodyPost m ρ c)
  rw [body_eq]
  exact sound_body m ρ c

/-! ## The ghost state dealt at launch -/

theorem ownSemFacts : Pipeline.OwnSemFacts cfg0.spec osem := by decide
theorem share_eq (c : Dev nD) (w : Fin cfg0.W) : (dats m ρ 0 c).share w = fullShare := by unfold Dat.share; split <;> rfl

abbrev cellAt (ck : Dev nD × Option KI) : GSem nD τ sig := kcell ck.1 ck.2
theorem cellAt_injective : Function.Injective cellAt := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨cellAt, cellAt_injective⟩

/-- The duties of one device's own cells. -/
abbrev TI : Type := Fin 15 ⊕ (Fin 16 ⊕ (Fin 4 × Fin 15))
def tokK : TI → Option KI × ℕ × Fin 15
  | .inl r => (none, 0, r)
  | .inr (.inl j) => (some (.inl (pr j.val)), j.val / 2, 0)
  | .inr (.inr (f, r)) => (some (.inr (f, r.succ)), 0, 0)
theorem tokK_inj : Function.Injective tokK := by
  rintro (r | j | ⟨f, r⟩) (r' | j' | ⟨f', r'⟩) h <;> simp only [tokK, Prod.mk.injEq, Option.some.injEq, Sum.inl.injEq, Sum.inr.injEq, reduceCtorEq, false_and, and_true, true_and] at h
  · rw [h]
  · have h1 := congrArg Fin.val h.1
    rw [pr_val, pr_val] at h1
    have : j = j' := Fin.ext (by omega)
    rw [this]
  · rw [h.1, Fin.succ_injective _ h.2]
abbrev tokAt (ct : Dev nD × TI) : GSem nD τ sig × ℕ × Fin 15 := (kcell ct.1 (tokK ct.2).1, (tokK ct.2).2)
theorem tokAt_injective : Function.Injective tokAt := by
  rintro ⟨c, t⟩ ⟨c', t'⟩ h
  have h0 := cellAt_injective (a₁ := (c, (tokK t).1)) (a₂ := (c', (tokK t').1)) (congrArg Prod.fst h)
  have h1 : c = c' := congrArg Prod.fst h0
  have h3 : (tokK t).2 = (tokK t').2 := congrArg (fun x : GSem nD τ sig × ℕ × Fin 15 => x.2) h
  have h2 : t = t' := tokK_inj (Prod.ext (congrArg Prod.snd h0) h3)
  rw [h1, h2]
def allToks : Finset (GSem nD τ sig × ℕ × Fin 15) := Finset.univ.map ⟨tokAt, tokAt_injective⟩

def u₀ : UU := (initOf (Pipeline.cells cfgs cellOf_inj) (Pipeline.launchToks cfgs cellOf_inj), initOf allCells allToks)

/-- The duty tokens of device `c`'s own cells. -/
def ownToks (c : Dev nD) : sProp 𝕄 :=
  iprop((bigSep Finset.univ fun r : Fin 15 => dutyTok ER (barC c) 0 r) ∗ (bigSep Finset.univ fun j : Fin 16 => wTok (F := F) c j)
    ∗ ((bigSep Finset.univ fun r : Fin 15 => dutyTok ER (asC c r.succ) 0 0) ∗ (bigSep Finset.univ fun r : Fin 15 => dutyTok ER (arC c r.succ) 0 0)
      ∗ (bigSep Finset.univ fun r : Fin 15 => dutyTok ER (tsC c r.succ) 0 0) ∗ (bigSep Finset.univ fun r : Fin 15 => dutyTok ER (trC c r.succ) 0 0)))

theorem ownToks_eq (c : Dev nD) : (bigSep Finset.univ fun t : TI => (dutyTok ER (tokAt (c, t)).1 (tokAt (c, t)).2.1 (tokAt (c, t)).2.2 : sProp 𝕄)) = ownToks (F := F) c := by
  unfold ownToks
  rw [BI.bigSep_univ_sum, BI.bigSep_univ_sum, bigSep_univ_prod, bigSep_univ_eq_bigSepL (M := MT nD τ sig Unit (Elt F) ℕ UU ℕ) [(0 : Fin 4), 1, 2, 3] (by decide) (by decide) _]
  rfl

/-- What the launch deals device `c`, -/
def G (c : Dev nD) : sProp 𝕄 :=
  iprop((bigSep Finset.univ fun x : Option KI => roundState ER (Rd m ρ) (kcell c x) 0)
    ∗ (bigSep Finset.univ fun x : Option KI => iprop(atPos ER (kcell c x) 0 ∅ 0 ∗ reached ER (kcell c x) 0)) ∗ ownToks (F := F) c)

/-- The records without the levels. -/
def recs0 : sProp 𝕄 :=
  iprop((bigSep Finset.univ fun ck : Dev nD × Option KI => cellInv ER (Rd m ρ) (K ck) (kcell ck.1 ck.2))
    ∗ (bigSep Finset.univ fun ck : Dev nD × Option KI => reached ER (kcell ck.1 ck.2) 0))
instance recs0_persistent : BI.Persistent (recs0 m ρ K) := by unfold recs0; infer_instance

/-- and what it has once every cell is set up. -/
def G' (c : Dev nD) : sProp 𝕄 := iprop((∃ K, recs0 m ρ K) ∗ posC (F := F) c (fun _ => 0) ∗ toksC (F := F) c)

theorem fund_ring : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun x : Option KI => Φ (kcell c x) := by
    unfold allCells; rw [bigSep_map, bigSep_univ_prod]; rfl
  have hT : bigSep allToks (fun x => (dutyTok ER x.1 x.2.1 x.2.2 : sProp 𝕄)) = bigSep Finset.univ fun c : Dev nD => ownToks (F := F) c := by
    unfold allToks; rw [bigSep_map, bigSep_univ_prod]
    exact bigSep_congr fun c _ => ownToks_eq c
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barC c) 0 := by
  unfold unscopedSems0; rw [bigSep_eq_bigSepL_of_eq [SemLoc.reg barS] (by decide) (by decide)]; rfl

theorem bigSep_option (Φ : Option KI → sProp 𝕄) : bigSep Finset.univ Φ = iprop(Φ none ∗ bigSep Finset.univ fun x : KI => Φ (some x)) := by
  rw [BI.bigSep_univ_split (none : Option KI), show (Finset.univ : Finset (Option KI)).erase none = Finset.univ.map Function.Embedding.some from by
      ext x; cases x <;> simp, bigSep_map]
  rfl

theorem sems0_eq (c : Dev nD) : iprop(unscopedSems0 c ∗ Pipeline.ownSems0 (Ix := Unit) (Name := ℕ) (U := UU) (Lvl := ℕ) (Val := Elt F) (τ := τ) osem c)
    = (bigSep Finset.univ fun x : Option KI => semVal (kcell c x) 0 : sProp 𝕄) := by
  rw [unscopedSems0_eq, bigSep_option]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Option KI => iprop(∃ κ : ℕ, cellInv ER (Rd m ρ) κ (kcell c x)))
          ∗ (bigSep Finset.univ fun x : Option KI => iprop(atPos ER (kcell c x) 0 ∅ 0 ∗ reached ER (kcell c x) 0)) ∗ ownToks (F := F) c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun x : Option KI => semVal (kcell c x) 0) ∗ bigSep Finset.univ fun x : Option KI => roundState ER (Rd m ρ) (kcell c x) 0)
      ⊢ (|={Set.univ}=> bigSep Finset.univ fun x : Option KI => iprop(∃ κ : ℕ, cellInv ER (Rd m ρ) κ (kcell c x)) : sProp 𝕄) from by
        rw [← bigSep_sep']
        exact (bigSep_mono fun x _ => (Rounds.body_intro ER (Rd m ρ) (kcell c x)).trans inv_alloc).trans (bigSep_fupd _ _)) $$ [Hv Hst] with Hinv
  · isplitl [Hv] <;> iassumption
  imodintro
  isplitl [Hinv]; · iexact Hinv
  isplitl [Hat]; · iexact Hat
  iexact Htok

/-- In every round each device's token goes to the device that many places up. -/
def around : (Dev nD × Fin 15) ≃ (Dev nD × Fin 15) where
  toFun p := (up p.1 p.2, p.2)
  invFun p := (up p.1 p.2.rev, p.2)
  left_inv p := Prod.ext (up_up_rev p.1 p.2) rfl
  right_inv p := Prod.ext (up_rev_up p.1 p.2) rfl
theorem deal (Φ : Dev nD → Fin 15 → sProp 𝕄) : (bigSep Finset.univ fun c : Dev nD => bigSep Finset.univ fun r : Fin 15 => Φ c r)
    = bigSep Finset.univ fun c : Dev nD => bigSep Finset.univ fun r : Fin 15 => Φ (up c r) r := by
  rw [← bigSep_univ_prod (fun p : Dev nD × Fin 15 => Φ p.1 p.2), bigSep_univ_equiv around, bigSep_univ_prod]
  rfl

theorem toks_around : (bigSep Finset.univ fun c : Dev nD => ownToks (F := F) c) ⊢ bigSep Finset.univ fun c : Dev nD => toksC (F := F) c := by
  have h : ∀ c, toksC (F := F) c = iprop((bigSep Finset.univ fun r : Fin 15 => dutyTok ER (barC (up c r)) 0 r)
      ∗ (bigSep Finset.univ fun j : Fin 16 => wTok (F := F) c j)
      ∗ ((bigSep Finset.univ fun r : Fin 15 => dutyTok ER (asC c r.succ) 0 0) ∗ (bigSep Finset.univ fun r : Fin 15 => dutyTok ER (arC (up c r) r.succ) 0 0))
      ∗ ((bigSep Finset.univ fun r : Fin 15 => dutyTok ER (tsC c r.succ) 0 0) ∗ (bigSep Finset.univ fun r : Fin 15 => dutyTok ER (trC (up c r) r.succ) 0 0))) := fun c => by
    unfold toksC
    rw [bigSep_sep' Finset.univ (fun r : Fin 15 => (dutyTok ER (asC c r.succ) 0 0 : sProp 𝕄)) (fun r : Fin 15 => dutyTok ER (arC (up c r) r.succ) 0 0),
      bigSep_sep' Finset.univ (fun r : Fin 15 => (dutyTok ER (tsC c r.succ) 0 0 : sProp 𝕄)) (fun r : Fin 15 => dutyTok ER (trC (up c r) r.succ) 0 0)]
  rw [bigSep_congr fun c _ => h c]
  unfold ownToks
  simp only [bigSep_sep']
  rw [deal (fun c r => dutyTok ER (barC c) 0 r), deal (fun c r => dutyTok ER (arC c r.succ) 0 0), deal (fun c r => dutyTok ER (trC c r.succ) 0 0)]
  iintro ⟨H1, H2, H3, H4, H5, H6⟩
  isplitl [H1]; · iexact H1
  isplitl [H2]; · iexact H2
  isplitl [H3 H4]
  · isplitl [H3] <;> iassumption
  isplitl [H5] <;> iassumption

theorem with_records {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun x : Option KI => iprop(∃ κ : ℕ, cellInv ER (Rd m ρ) κ (kcell c x)))
          ∗ (bigSep Finset.univ fun x : Option KI => iprop(atPos ER (kcell c x) 0 ∅ 0 ∗ reached ER (kcell c x) 0)) ∗ ownToks (F := F) c) : sProp 𝕄)
      ⊢ bigSep Finset.univ (G' m ρ) := by
  rw [bigSep_sep', bigSep_sep', ← bigSep_univ_prod (fun ck : Dev nD × Option KI => iprop(∃ κ : ℕ, cellInv ER (Rd m ρ) κ (kcell ck.1 ck.2))),
    bigSep_congr (s := Finset.univ) (fun (c : Dev nD) _ => bigSep_sep' Finset.univ (fun x : Option KI => (atPos ER (kcell c x) 0 ∅ 0 : sProp 𝕄)) (fun x => reached ER (kcell c x) 0)),
    bigSep_sep', ← bigSep_univ_prod (fun ck : Dev nD × Option KI => (reached ER (kcell ck.1 ck.2) 0 : sProp 𝕄))]
  iintro ⟨HI, ⟨Hat, #HR⟩, Htok⟩
  ihave HK := (BI.bigSep_exists_pi Finset.univ (fun (ck : Dev nD × Option KI) (κ : ℕ) => (cellInv ER (Rd m ρ) κ (kcell ck.1 ck.2) : sProp 𝕄))) $$ HI
  icases HK with ⟨%K, #HI⟩
  ihave Htk := (toks_around (F := F)) $$ Htok
  iapply (with_records (R := recs0 m ρ K) (Φ := fun c => iprop(posC (F := F) c (fun _ => 0) ∗ toksC (F := F) c)) (fun c => by
    unfold G'
    iintro ⟨#H, Hp, Ht⟩
    isplitr; · iexists K; iexact H
    isplitl [Hp] <;> iassumption))
  isplitr
  · unfold recs0; isplitl; · iexact HI
    iexact HR
  · iapply (Entails.of_eq (bigSep_sep' Finset.univ (fun c : Dev nD => posC (F := F) c (fun _ => 0)) (fun c => toksC (F := F) c)).symm)
    isplitl [Hat]; · unfold posC; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credits -/

theorem ow_zero (g : Fin 15 → GSem nD τ sig) (n : ℕ) : ow g n 0 = ∑ r : Fin 15, tallyAt (g r) () n := by
  unfold ow; rw [Finset.filter_true_of_mem fun r _ => Nat.zero_le _]

theorem sum_same (g : GSem nD τ sig) : (∑ r : Fin 15, tallyAt g () 1 : CellTallies nD τ sig Unit) = tallyAt g () 15 := by
  funext q
  refine Finsupp.ext fun u => ?_
  rw [Finset.sum_apply, Finsupp.finset_sum_apply, Finset.sum_congr rfl fun r _ => tallyAt_apply g () 1 q u, tallyAt_apply, Finset.sum_const, Finset.card_univ, Fintype.card_fin, smul_eq_mul]
  split <;> rfl

theorem owed_split : (fun d => oweD d 0 0 0) = fun d : Dev nD => ((∑ r : Fin 15, tallyAt (gA d r) () NA) + (∑ r : Fin 15, tallyAt (gT d r) () NT)) + ∑ r : Fin 15, tallyAt (gB d r) () 1 := by
  funext d; unfold oweD; rw [ow_zero, ow_zero, ow_zero]

theorem creds (c : Dev nD) : (Pipeline.launchCred (fun d => oweD d 0 0 0) c : sProp 𝕄) ⊢ credsC (F := F) c := by
  have h (sm : Fin 15 → SemLoc sig) (n : ℕ) : (Pipeline.launchCred (fun d : Dev nD => ∑ r : Fin 15, tallyAt ((up d r : Thread nD τ), sm r) () n) c : sProp 𝕄)
      ⊢ bigSep Finset.univ fun r : Fin 15 => cred (tallyAt ((c : Thread nD τ), sm r) () n) := by
    rw [Pipeline.launchCred_sum Finset.univ (fun (r : Fin 15) (d : Dev nD) => tallyAt ((up d r : Thread nD τ), sm r) () n) c]
    exact bigSep_mono fun r _ => Pipeline.launchCred_tallyAt (sm r) (fun d => up d r) (fun d => up d r.rev) (fun d => up_rev_up d r) (fun d => up_up_rev d r) () n c
  rw [owed_split, Pipeline.launchCred_add, Pipeline.launchCred_add]
  unfold credsC
  rw [← sum_same (barC c), Pipeline.cred_finsetSum]
  iintro ⟨⟨HA, HT⟩, HB⟩
  isplitl [HB]; · iapply (h (fun _ => .reg barS) 1); iexact HB
  isplitl [HA]; · iapply (h (fun r => .dma (arSem r.succ)) NA); iexact HA
  iapply (h (fun r => .dma (trSem r.succ)) NT); iexact HT

/-! ## The launch's side conditions -/

theorem start_intro (c : Dev nD) :
    iprop(Pipeline.unscopedRestP Pipeline.Prefetch.none cfg0.spec c (fun b => m ((c : Thread nD τ).loc b)) ∗ levAts L lv
        ∗ Pipeline.launchCred (fun d => oweD d 0 0 0) c ∗ prngReg c (ρ c) ∗ G' m ρ c)
      ⊢ |={Set.univ}=> iprop(start m ρ c ∗ emp) := by
  unfold G'
  iintro ⟨Hw, #Hlev, Hcr, -, ⟨%K, #HK⟩, Hp, Ht⟩
  ihave Hc := (creds (F := F) c) $$ Hcr
  imodintro
  unfold start
  isplitl
  · isplitr
    · iexists K
      unfold recs0
      icases HK with ⟨H1, H2⟩
      unfold recs
      isplitr; · iexact H1
      isplitr; · iexact H2
      iexact Hlev
    isplitl [Ht]; · iexact Ht
    isplitl [Hc]; · iexact Hc
    isplitl [Hp]; · iexact Hp
    iapply (show (Pipeline.unscopedRestP Pipeline.Prefetch.none cfg0.spec c (fun b => m ((c : Thread nD τ).loc b)) : sProp 𝕄) ⊢ wPt m ρ c from
      Entails.of_eq ((Pipeline.unscopedRestP_none _ _ _).trans (unscopedRest0_eq c _)))
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scrC (F := F) c) from rfl, scopedRest0_eq]
  unfold scrC
  iintro ⟨Hs, -, Hr⟩
  isplitl [Hs] <;> iassumption

theorem phi1_exit (c : Dev nD) :
    (dats m ρ 0 c).Φ (Fin.last cfg0.N) ⊢ iprop((unscopedSems0 c ∗ wPt m ρ c) ∗ Pipeline.ownSems0 osem c ∗ Pipeline.scopedRest cfg0.spec c) := by
  rw [show (dats m ρ 0 c).Φ (Fin.last cfg0.N) = done m ρ c from rfl, scopedRest0_eq]
  unfold done
  rw [← sems0_eq]
  unfold scrC
  iintro ⟨Hs, ⟨Hu, Ho⟩, Hw⟩
  isplitl [Hu Hw]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 0 0 0 (by fin_cases w <;> fin_cases s <;> decide) (fun _ => by decide) (fun _ => by decide) (by decide)
    · show _ ⊢ MayWait _ _ _ 0
      rw [MayWait_zero]; iintro -; iempintro

/-! ## The run -/

/-- What device `c`'s memory holds at the end. -/
structure Ends (c : Dev nD) (s : MemSt nD τ sig (Elt F)) : Prop where
  x : s.mem ((c : Thread nD τ).loc main_arg0) = m ((c : Thread nD τ).loc main_arg0)
  w : s.mem ((c : Thread nD τ).loc main_arg1) = m ((c : Thread nD τ).loc main_arg1)
  o : s.mem ((cfg0.win (1 : Fin 2)).arr.view.loc (c : Thread nD τ)) = (dats m ρ 0 c).arrAt (1 : Fin 2) cfg0.N

theorem read_w (c : Dev nD) (s' : Phys nD τ sig (Elt F)) : iprop(wPt m ρ c ∗ SI s') ⊢ (iprop(⌜s'.mem.mem ((c : Thread nD τ).loc main_arg1) = w1 m ρ c⌝ ∗ SI s') : sProp 𝕄) := by
  unfold wPt
  iintro ⟨Hi, HSI⟩
  icombine HSI Hi gives %h
  isplitr
  · ipureintro; exact Buf.eq_of_forall_mem_univ h
  iexact HSI

theorem run_main : θ_run defs (onTc (τ := τ) (main (F := F))) (s₀ m ρ) (fun r => (∀ c, Ends m ρ c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => oweD d 0 0 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ wPt m ρ c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem ((c : Thread nD τ).loc main_arg1) = w1 m ρ c)
    (hY := fun c s' => by
      iintro ⟨⟨Hu, Hw⟩, -, HSI⟩
      ihave H := (read_w m ρ c s') $$ [Hw HSI]
      · isplitl [Hw] <;> iassumption
      icases H with ⟨%hw, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, hw⟩
      iexact HSI)
    (hQ := fun _ h hs => ⟨fun c => ⟨((h c).1 (0 : Fin 2)).trans ((dats (F := F) m ρ 0 c).arrAt_in (0 : Fin 2) rfl _), (h c).2.2.2, (h c).1 (1 : Fin 2)⟩,
      sem_eq_zero hs fun c => (h c).2.2.1⟩)

end Cert.KernelIdeal.Ring

end
-- ==== Proof.ValueArith.lean ====
/- The arithmetic of the value claim, over the extended reals and at any shapes: what a maximum over all the axes of an
   array is below, and that clipping a quotient by the scale changes nothing after the scale is multiplied back. -/
module

public import Idealize.ShloMosaic.PureOps.Ideal.Laws
public import Idealize.ShloMosaic.Lib.ValueIdx

@[expose] public section

noncomputable section

namespace Cert.Value

open Idealize.ShloMosaic Idealize.ShloMosaic.ValueIdx
open scoped BigOperators

/-! ## The constants -/

theorem bits_448 : Ideal.ofBits .f32 0x43E00000#32 = ((448 : ℝ) : EReal) := by
  simp [Ideal.ofBits, Ideal.ieee]
  rw [← EReal.coe_mul]; norm_num
theorem bits_neg_448 : Ideal.ofBits .f32 0xC3E00000#32 = ((-448 : ℝ) : EReal) := by
  simp [Ideal.ofBits, Ideal.ieee]
  rw [← EReal.coe_mul]; norm_num
theorem bits_bot : Ideal.ofBits .f32 0xFF800000#32 = ⊥ := by
  simp [Ideal.ofBits, Ideal.ieee]

/-! ## Maxima over all axes -/

section Max
variable {s t u : Shape} {φ : FTy} {axes : List (Fin s.rank)}

theorem host_max_le (x : FVec Ideal s φ) (init : u.Idx → Ideal φ) (h : s.ReducesTo axes t) (hu : 0 < u.numel)
    (ht : ∀ b, t.size b = 1) (j : t.Idx) (z : EReal) :
    Host.reduce FloatOps.maximumf x init h hu j ≤ z ↔ init (Shape.Idx.first hu) ≤ z ∧ ∀ i, x i ≤ z := by
  rw [Host.reduce_eq_fold, Finset.filter_true_of_mem fun i _ => funext fun b => Fin.ext (by
    have := (h.drop i b).isLt; have := (j b).isLt; have := ht b; omega)]
  refine (Finset.fold_max_le z).trans ?_
  simp

theorem multi_max_le (x : FVec Ideal s φ) (acc : BitVec φ.bits) (h : s.Reduces axes t) (hφ : FKind.Formats φ)
    (hacc : acc = FKind.maximumf.neutral φ hφ) (ht : ∀ b, t.size b = 1) (j : t.Idx) (z : EReal) :
    multiReduction .maximumf axes t x acc h hφ hacc j ≤ z ↔ Ideal.ofBits φ acc ≤ z ∧ ∀ i, x i ≤ z := by
  rw [multiReduction_maximumf_eq_fold, Finset.filter_true_of_mem fun i _ => funext fun b => Fin.ext (by
    have := (h.drop i b).isLt; have := (j b).isLt; have := ht b; omega)]
  refine (Finset.fold_max_le z).trans ?_
  simp [FloatOps.ofBits]

/-- A shape cast reads every element, so a bound on all elements is a bound on the cast's. -/
theorem cast_le (x : s.Idx → EReal) (h : s.ShapeCasts t) (z : EReal) : (∀ i, shapeCast t x h i ≤ z) ↔ ∀ i, x i ≤ z := by
  unfold shapeCast
  exact (Shape.reshapeEquiv h).symm.forall_congr_left (p := fun i => x i ≤ z) |>.symm

end Max

theorem abs_nonneg (y : EReal) : 0 ≤ max y (-y) := by
  rcases le_total 0 y with h | h
  · exact le_max_of_le_left h
  · exact le_max_of_le_right (by rw [EReal.le_neg, neg_zero]; exact h)

/-! ## The clip -/

/-- The scale divided out and multiplied back: inside the maximum the clip at 448 changes nothing. -/
theorem clip_eq (y A : EReal) (h : max y (-y) ≤ A) :
    min ((448 : ℝ) : EReal) (max ((-448 : ℝ) : EReal) (Ideal.div y (Ideal.div A ((448 : ℝ) : EReal)))) * Ideal.div A ((448 : ℝ) : EReal)
      = Ideal.div y (Ideal.div A ((448 : ℝ) : EReal)) * Ideal.div A ((448 : ℝ) : EReal) := by
  have h448 : ((448 : ℝ) : EReal) ≠ 0 := by norm_num
  have hs : Ideal.div A ((448 : ℝ) : EReal) = A * (((448 : ℝ)⁻¹ : ℝ) : EReal) := by
    rw [Ideal.div, if_neg h448, EReal.coe_inv]
  obtain ⟨h1, h2⟩ := max_le_iff.1 h
  rw [hs]
  induction A using EReal.rec with
  | bot =>
    rw [le_bot_iff] at h1 h2
    rw [h1] at h2; simp at h2
  | top =>
    rw [EReal.top_mul_coe_of_pos (by norm_num)]
    have : Ideal.div y ⊤ = 0 := by rw [Ideal.div, if_neg (by simp)]; simp
    rw [this]; congr 1
    rw [max_eq_right (by exact_mod_cast (by norm_num : (-448 : ℝ) ≤ 0)), min_eq_right (by exact_mod_cast (by norm_num : (0 : ℝ) ≤ 448))]
  | coe a =>
    have hy : ∃ r : ℝ, y = (r : EReal) := by
      induction y using EReal.rec with
      | bot => simp at h2
      | top => simp at h1
      | coe r => exact ⟨r, rfl⟩
    obtain ⟨r, rfl⟩ := hy
    have h1' : r ≤ a := by exact_mod_cast h1
    have h2' : -r ≤ a := by exact_mod_cast h2
    rw [← EReal.coe_mul]
    rcases (show 0 ≤ a by linarith).eq_or_lt with ha | ha
    · subst ha; simp
    have hpos : 0 < a * (448 : ℝ)⁻¹ := by positivity
    have hd : Ideal.div (r : EReal) ((a * (448 : ℝ)⁻¹ : ℝ) : EReal) = ((r * (a * (448 : ℝ)⁻¹)⁻¹ : ℝ) : EReal) := by
      rw [Ideal.div, if_neg (by exact_mod_cast hpos.ne'), ← EReal.coe_inv, ← EReal.coe_mul]
    rw [hd]; congr 1
    have e : r * (a * (448 : ℝ)⁻¹)⁻¹ = r / a * 448 := by field_simp
    have l : r / a ≤ 1 := by rw [div_le_one ha]; exact h1'
    have l' : -1 ≤ r / a := by rw [le_div_iff₀ ha]; linarith
    rw [max_eq_right (by rw [e]; exact_mod_cast (by linarith : (-448 : ℝ) ≤ r / a * 448)),
      min_eq_right (by rw [e]; exact_mod_cast (by linarith : r / a * 448 ≤ (448 : ℝ)))]

/-! ## What the program computes -/

abbrev Sx : Shape := ⟨2, ![4096, 4096]⟩
abbrev Sw : Shape := ⟨2, ![4096, 8192]⟩

variable (x : Sx.Idx → EReal) (w : Sw.Idx → EReal)

/-- An element of the product. -/
def prod (r : Fin 4096) (q : Fin 8192) : EReal := ∑ k : Fin 4096, x (ix2 r k) * w (ix2 k q)
/-- Its absolute value. -/
def mag (r : Fin 4096) (q : Fin 8192) : EReal := max (prod x w r q) (-prod x w r q)
/-- The greatest of them. -/
def amax : EReal := ⨆ r, ⨆ q, mag x w r q
theorem amax_le (z : EReal) : amax x w ≤ z ↔ ∀ r q, mag x w r q ≤ z := by simp only [amax, iSup_le_iff]
theorem mag_le (r : Fin 4096) (q : Fin 8192) : mag x w r q ≤ amax x w := (amax_le x w _).1 le_rfl r q
/-- The scale. -/
def scale : EReal := Ideal.div (amax x w) ((448 : ℝ) : EReal)
/-- An element of the result. -/
def result (r : Fin 4096) (q : Fin 8192) : EReal := Ideal.div (prod x w r q) (scale x w) * scale x w

end Cert.Value

end
-- ==== Proof.ValueKernel.lean ====
/- The value of the kernel: every element of what a device writes is the product's, divided by the scale of all the
   devices and multiplied back. -/
module

public import proofs.«01_k».proof.Proof.IdealLaunch
public import proofs.«01_k».proof.Proof.ValueArith
public import Idealize.ShloMosaic.Lib.MatmulPlain
public import Idealize.ShloMosaic.Lib.ValueLayout
public import Idealize.ShloMosaic.Lib.Pipeline.ValueKit.Geometry

@[expose] public section

noncomputable section

namespace Cert.KernelIdeal.Ring

open Cert.KernelIdeal Cert.KernelIdeal.Gen Cert.Value
open Idealize.ShloMosaic Idealize.ShloMosaic.TcCoe Idealize.ShloMosaic.ValueIdx
open Idealize.SL Idealize.SL.Sem
open Idealize.ShloMosaic.Pipeline (Dat)
open scoped BigOperators

/-! ## The payloads at an element -/

theorem dot_plain : dot_S256x4096_S4096x512_S256x512_1_0_0_1_n_n = DotDims.plain 256 4096 512 := rfl

theorem prodV_apply (x : Vec Ideal S256x4096 .f32) (w : Vec Ideal S1x4096x512 .f32) (a : Fin 256) (b : Fin 512) :
    prodV x w (ix2 a b) = ∑ k : Fin 4096, x (ix2 a k) * w (ix3 (0 : Fin 1) k b) := by
  unfold prodV
  have h := Ideal.matmul_plain_apply (M := 256) (K := 4096) (N := 512) (φ₁ := .f32) (φ₂ := .f32) none
    (shapeCast S256x4096 x shapeCasts_S256x4096_S256x4096) (shapeCast S4096x512 w shapeCasts_S1x4096x512_S4096x512)
    (constant S256x512 .f32 0x00000000#32) a b
  refine h.trans ?_
  show Ideal.ofBits .f32 0x00000000#32 + _ = _
  rw [Ideal.ofBits_zero_f32, zero_add]
  refine Finset.sum_congr rfl fun k _ => ?_
  rw [shapeCast_apply x shapeCasts_S256x4096_S256x4096 (ix2 a k) (ix2 a k) rfl]
  exact congrArg _ (shapeCast_1ab_ab_apply w shapeCasts_S1x4096x512_S4096x512 k b)

/-- What holds of every element of an array holds of a cast's. -/
theorem one_cast {α : Type} {s t : Shape} {v : s.Idx → α} {p : α → Prop} {q : Prop} {hc : s.ShapeCasts t} {j : t.Idx}
    (h : ∀ i, p (v i) ↔ q) : p (shapeCast t v hc j) ↔ q := by
  unfold shapeCast
  exact h _

theorem maxV_le (acc : EReal) (x : Vec Ideal S256x4096 .f32) (w : Vec Ideal S1x4096x512 .f32) (z : EReal) :
    maxV (F := Ideal) acc x w ≤ z ↔ acc ≤ z ∧ ∀ i, max (prodV x w i) (-prodV x w i) ≤ z := by
  unfold maxV
  refine (max_le_iff (α := EReal)).trans (and_congr_right fun _ => ?_)
  unfold extractAt
  refine (one_cast (t := S1x1x1) (p := fun y : EReal => y ≤ z) (fun i => multi_max_le (shapeCast S1x256x512 (absf (prodV x w)) shapeCasts_S256x512_S1x256x512) 0xFF800000#32
    reduces_S1x256x512_S1 (.inl rfl) rfl (fun b => by revert b; decide) i z)).trans ?_
  rw [bits_bot, cast_le (absf (prodV x w)) shapeCasts_S256x512_S1x256x512 z]
  exact and_iff_right bot_le

theorem scaleV_eq (v : Vec Ideal S16x8x128 .f32) (A : EReal) (h : ∀ z, (∀ i, v i ≤ z) ↔ A ≤ z) :
    scaleV (F := Ideal) v = Ideal.div A ((448 : ℝ) : EReal) := by
  unfold scaleV Scalar.divf Scalar.ofBits extractAt
  rw [← bits_448]
  refine congrArg (fun y : EReal => Ideal.div y (Ideal.ofBits .f32 0x43E00000#32)) ?_
  refine eq_of_forall_ge_iff fun z => ?_
  refine (one_cast (t := S1x1x1x1) (p := fun y : EReal => y ≤ z) (fun i => multi_max_le (shapeCast S1x16x8x128 v shapeCasts_S16x8x128_S1x16x8x128) 0xFF800000#32
    reduces_S1x16x8x128_S1 (.inl rfl) rfl (fun b => by revert b; decide) i z)).trans ?_
  rw [bits_bot, cast_le v _ z, h]
  exact and_iff_right bot_le

/-! ## The run's values -/

variable (m : (ℓ : Loc nD τ sig) → Buf (Elt Ideal) ℓ) (ρ : Dev nD → PrngReg)
variable (X : Sx.Idx → EReal) (W : Sw.Idx → EReal)

/-- Row `a` of device `c`'s block. -/
def row (c : Fin 16) (a : Fin 256) : Fin 4096 := ⟨256 * c.val + a.val, by omega⟩
/-- Column `b` of tile `j`. -/
def col (j : Fin 16) (b : Fin 512) : Fin 8192 := ⟨512 * j.val + b.val, by omega⟩
theorem row_surj (r : Fin 4096) : ∃ c a, row c a = r :=
  ⟨⟨r.val / 256, by omega⟩, ⟨r.val % 256, by omega⟩, Fin.ext (by show 256 * (r.val / 256) + r.val % 256 = r.val; omega)⟩
theorem col_surj (q : Fin 8192) : ∃ j b, col j b = q :=
  ⟨⟨q.val / 512, by omega⟩, ⟨q.val % 512, by omega⟩, Fin.ext (by show 512 * (q.val / 512) + q.val % 512 = q.val; omega)⟩

/-- The devices' arguments are their parts of `X` and `W`. -/
structure Parts : Prop where
  x : ∀ (c : Dev nD) (a : Fin 256) (k : Fin 4096), (m ((c : Thread nD τ).loc main_arg0) : S256x4096.Idx → EReal) (ix2 a k) = X (ix2 (row c a) k)
  w : ∀ (c : Dev nD) (k : Fin 4096) (q : Fin 8192), (m ((c : Thread nD τ).loc main_arg1) : S4096x8192.Idx → EReal) (ix2 k q) = W (ix2 k q)

variable {m X W} (h : Parts m X W)
include h

theorem xstg_apply (c : Dev nD) (a : Fin 256) (k : Fin 4096) : xstg m ρ c (ix2 a k) = X (ix2 (row c a) k) := by
  refine Eq.trans ?_ (h.x c a k)
  show (m ((c : Thread nD τ).loc main_arg0) : S256x4096.Idx → EReal) _ = _
  congr 1; funext e; apply Fin.ext
  exact Pipeline.Window.rect_emb_val_of_index_zero win0_0 (0 : Fin 1) e
    ((by decide +kernel : ∀ e, win0_0.index (0 : Fin 1) e = 0) e) (ix2 a k)

theorem wv_apply (c : Dev nD) (j : Fin 16) (k : Fin 4096) (b : Fin 512) :
    wv m ρ c j (ix3 (0 : Fin 1) k b) = W (ix2 k (col j b)) := by
  refine (shapeCast_ab_1ab_apply (wt m ρ c j) scW 0 k b).trans (Eq.trans ?_ (h.w c k (col j b)))
  show (m ((c : Thread nD τ).loc main_arg1) : S4096x8192.Idx → EReal) _ = _
  congr 1; funext e; apply Fin.ext
  match e with
  | ⟨0, _⟩ => show 0 + 1 * k.val = k.val; omega
  | ⟨1, _⟩ => show j.val * 512 + 1 * b.val = 512 * j.val + b.val; omega

theorem tile_apply (c : Dev nD) (j : Fin 16) (a : Fin 256) (b : Fin 512) :
    prodV (xstg m ρ c) (wv m ρ c j) (ix2 a b) = prod X W (row c a) (col j b) := by
  rw [prodV_apply]
  exact Finset.sum_congr rfl fun k _ => by rw [xstg_apply ρ h, wv_apply ρ h]

theorem accN_le (c : Dev nD) (z : EReal) (n : ℕ) : accN m ρ c n ≤ z
    ↔ 0 ≤ z ∧ ∀ k < n, ∀ a b, mag X W (row c a) (col (ix16 k) b) ≤ z := by
  induction n with
  | zero =>
    show Ideal.ofBits .f32 0x00000000#32 ≤ z ↔ _
    rw [Ideal.ofBits_zero_f32]; simp
  | succ n ih =>
    refine (maxV_le _ _ _ z).trans ?_
    rw [ih]
    have e : (∀ i, max (prodV (xstg m ρ c) (wv m ρ c (ix16 n)) i) (-prodV (xstg m ρ c) (wv m ρ c (ix16 n)) i) ≤ z)
        ↔ ∀ a b, mag X W (row c a) (col (ix16 n) b) ≤ z := by
      constructor
      · intro H a b; have := H (ix2 a b); rw [tile_apply ρ h] at this; exact this
      · intro H i
        obtain ⟨a, b, rfl⟩ : ∃ (a : Fin 256) (b : Fin 512), i = ix2 a b := ⟨_, _, eq_ix2 i⟩
        rw [tile_apply ρ h]; exact H a b
    rw [e]
    constructor
    · rintro ⟨⟨h0, h1⟩, h2⟩
      refine ⟨h0, fun k hk => ?_⟩
      rcases Nat.lt_succ_iff_lt_or_eq.1 hk with hk | rfl
      · exact h1 k hk
      · exact h2
    · rintro ⟨h0, h1⟩
      exact ⟨⟨h0, fun k hk => h1 k (by omega)⟩, h1 n (by omega)⟩

theorem lmax_le (c : Dev nD) (z : EReal) : lmax m ρ c ≤ z ↔ ∀ a q, mag X W (row c a) q ≤ z := by
  refine (accN_le ρ h c z 16).trans ⟨fun H a q => ?_, fun H => ⟨?_, fun k _ a b => H a _⟩⟩
  · obtain ⟨j, b, rfl⟩ := col_surj q
    have e : ix16 j.val = j := by unfold ix16; exact Fin.ext (Nat.mod_eq_of_lt j.isLt)
    have := H.2 j.val j.isLt a b
    rwa [e] at this
  · exact (abs_nonneg _).trans (H 0 0)

theorem scl_eq (c : Dev nD) : scl m ρ c = scale X W := by
  refine scaleV_eq _ _ fun z => ?_
  rw [amax_le]
  constructor
  · intro H r q
    obtain ⟨b, a, rfl⟩ := row_surj r
    have := H (ix3 (⟨(c.val + 16 - b.val) % 16, Nat.mod_lt _ (by decide)⟩ : Fin 16) (0 : Fin 8) (0 : Fin 128))
    have e : src c ((c.val + 16 - b.val) % 16) = b := Fin.ext (by
      show (c.val + 16 - (c.val + 16 - b.val) % 16) % 16 = b.val
      have hc : c.val < 16 := c.isLt
      have hb : b.val < 16 := b.isLt
      omega)
    have e' : lmax m ρ b ≤ z := by rw [← e]; exact this
    exact (lmax_le ρ h b z).1 e' a q
  · intro H i
    exact (lmax_le ρ h _ z).2 fun a q => H _ q

/-- The tile of device `b` that device `c` writes. -/
theorem ov_apply (c b : Dev nD) (a : Fin 256) (q : Fin 512) : ov m ρ c b (ix2 a q) = result X W (row b a) (col c q) := by
  have e : shapeCast S256x512 (yv m ρ b c) shapeCasts_S1x256x512_S256x512 (ix2 a q) = prod X W (row b a) (col c q) :=
    (shapeCast_1ab_ab_apply (yv m ρ b c) _ a q).trans ((shapeCast_ab_1ab_apply (prodV (xstg m ρ b) (wv m ρ b c)) _ 0 a q).trans
      (tile_apply ρ h b c a q))
  unfold ov dequantV qv quantV
  rw [scl_eq ρ h c, scl_eq ρ h b]
  refine Eq.trans ?_ (congrArg (fun y : EReal => Ideal.div y (scale X W) * scale X W) e)
  rfl

theorem outAt_apply (c : Dev nD) (i : S4096x512.Idx) : outAt m ρ c i = result X W (i 0) (col c (i 1)) := by
  have h0 : (i 0).val < 4096 := (i 0).isLt
  have h1 : (i 1).val < 512 := (i 1).isLt
  have e := ov_apply ρ h c (ix16 ((i 0).val / 256)) ⟨(i 0).val % 256, by omega⟩ ⟨(i 1).val % 512, by omega⟩
  refine Eq.trans ?_ (e.trans ?_)
  · show ov m ρ c _ _ = ov m ρ c _ _
    congr 1; funext a; match a with | ⟨0, _⟩ => rfl | ⟨1, _⟩ => rfl
  · congr 1
    · apply Fin.ext; unfold ix16
      show 256 * ((i 0).val / 256 % 16) + (i 0).val % 256 = (i 0).val; omega
    · congr 1; apply Fin.ext; show (i 1).val % 512 = (i 1).val; omega

theorem whole1 : (win0_1).WholeAt (0 : Fin 1) :=
  ⟨by decide +kernel, fun t _ => Subsingleton.elim (α := Fin 1) t 0, (by decide +kernel :
    ∀ a : Fin 2, win0_1.index (0 : Fin 1) a = 0 ∧ win0_1.xsize (grid0.coords (0 : Fin 1)) a = win0_1.shape.size a)⟩

/-- The result of the kernel. -/
theorem arr_eq (c : Dev nD) : (dats m ρ 0 c).arrAt (1 : Fin 2) cfg0.N
    = fun i : S4096x512.Idx => result X W (i 0) (col c (i 1)) :=
  (dats m ρ 0 c).arrAt_eq_of_after_last (1 : Fin 2) (0 : Fin 1) (whole1 h) _ (fun j => outAt_apply ρ h c j)

end Cert.KernelIdeal.Ring

end
-- ==== Proof.ValueRef.lean ====
/- The value of the reference: every element of its result is the product's, clipped at the scale. -/
module

public import proofs.«01_k».proof.Proof.Gen.ReferenceIdeal
public import proofs.«01_k».proof.Proof.Gen.ReferenceIdeal.Value
public import proofs.«01_k».proof.Proof.ValueArith
public import Idealize.ShloMosaic.Lib.MatmulPlain
public import Idealize.ShloMosaic.Lib.StableHlo.Run
public import Idealize.ShloMosaic.Lib.Pipeline.ValueKit.Geometry

@[expose] public section

noncomputable section

namespace Cert.ReferenceIdeal.Whole

open Cert.ReferenceIdeal Cert.ReferenceIdeal.Gen Cert.Value
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

abbrev xA (c : Dev nD) : Sx.Idx → EReal := m ((c : Thread nD τ).loc main_arg0)
abbrev wA (c : Dev nD) : Sw.Idx → EReal := m ((c : Thread nD τ).loc main_arg1)

/-- The product as the host computes it. -/
def yA (c : Dev nD) : FVec Ideal S4096x8192 .f32 :=
  Host.dotGeneral (F := Ideal) (φ₁ := .f32) (φ₂ := .f32) dot_S4096x4096_S4096x8192_S4096x8192_1_0_0_1_n_n none (xA m c : FVec Ideal S4096x4096 .f32) (wA m c : FVec Ideal S4096x8192 .f32)
/-- Its greatest magnitude as the host computes it. -/
def aA (c : Dev nD) : FVec Ideal S_ .f32 :=
  Host.reduce FloatOps.maximumf (Host.absf (yA m c)) (constant S_ .f32 0xFF800000#32) reducesTo_S4096x8192_S_d0_1 h_S_
def sA (c : Dev nD) : FVec Ideal S_ .f32 := Host.divf (aA m c) (constant S_ .f32 0x43E00000#32)

theorem V_v0 (c : Dev nD) : V m c main_v0 = yA m c := by
  show StableHlo.after hostOps0 _ (Proc.devRef .tc main_v0) = _
  after_results
  rfl
theorem V_v4 (c : Dev nD) : V m c main_v4 = shapeCast S1x1 (sA m c) shapeCasts_S_S1x1 := by
  show StableHlo.after hostOps0 _ (Proc.devRef .tc main_v4) = _
  after_results
  rfl

theorem dot_plain : dot_S4096x4096_S4096x8192_S4096x8192_1_0_0_1_n_n = DotDims.plain 4096 4096 8192 := rfl

theorem yA_apply (c : Dev nD) (r : Fin 4096) (q : Fin 8192) : yA m c (ix2 r q) = prod (xA m c) (wA m c) r q := by
  unfold yA
  simp only [Host.dotGeneral]
  rw [Ideal.dotGeneral_def, dot_plain]
  have h := Ideal.matmul_plain_apply (M := 4096) (K := 4096) (N := 8192) (φ₁ := .f32) (φ₂ := .f32) none (xA m c : FVec Ideal _ .f32) (wA m c : FVec Ideal _ .f32) (fun _ => 0) r q
  rw [zero_add] at h
  exact h

theorem aA_eq (c : Dev nD) (i : S_.Idx) : aA m c i = amax (xA m c) (wA m c) := by
  refine eq_of_forall_ge_iff fun z => ?_
  rw [amax_le]
  refine (host_max_le _ _ _ _ (fun b => b.elim0) i z).trans ?_
  have e : (constant (F := Ideal) S_ .f32 0xFF800000#32) (Shape.Idx.first h_S_) = ⊥ := bits_bot
  rw [e]
  have a (r : Fin 4096) (q : Fin 8192) : Host.absf (yA m c) (ix2 r q) = mag (xA m c) (wA m c) r q := by
    show max (yA m c (ix2 r q)) (-(yA m c (ix2 r q))) = _
    rw [yA_apply]; rfl
  constructor
  · intro h r q; rw [← a]; exact h.2 _
  · intro h; refine ⟨bot_le, fun j => ?_⟩
    obtain ⟨r, q, rfl⟩ : ∃ (r : Fin 4096) (q : Fin 8192), j = ix2 r q := ⟨_, _, eq_ix2 j⟩
    rw [a]; exact h _ _

theorem sA_eq (c : Dev nD) (i : S_.Idx) : sA m c i = scale (xA m c) (wA m c) := by
  show Ideal.div (aA m c i) (Ideal.ofBits .f32 0x43E00000#32) = _
  rw [aA_eq, bits_448]; rfl

/-- The grid's one point. -/
abbrev t0 : Fin cfg0.N := (0 : Fin 1)
theorem whole2 : (win0_2).WholeAt (0 : Fin 1) :=
  ⟨by decide +kernel, fun t _ => Subsingleton.elim (α := Fin 1) t 0, (by decide +kernel :
    ∀ a : Fin 2, win0_2.index (0 : Fin 1) a = 0 ∧ win0_2.xsize (grid0.coords (0 : Fin 1)) a = win0_2.shape.size a)⟩
theorem zero0 : ∀ a, win0_0.index (0 : Fin 1) a = 0 := by decide +kernel

/-- The block of the product that the one grid point reads is the product. -/
theorem iblk0 (c : Dev nD) (y : S4096x8192.Idx) : iblk m c 0 t0 y = yA m c y := by
  rw [← V_v0]
  show V m c main_v0 (((cfg0.win 0).rect t0).emb y) = _
  congr 1; funext a; apply Fin.ext
  exact Pipeline.Window.rect_emb_val_of_index_zero _ _ _ (zero0 a) y
/-- The block of the scale that it reads is the scale. -/
theorem iblk1 (c : Dev nD) (y : S1x1.Idx) : iblk m c 1 t0 y = scale (xA m c) (wA m c) := by
  show V m c main_v4 _ = _
  rw [V_v4]
  exact sA_eq m c _

/-- What the body leaves in the output's buffer. -/
theorem out_eq (c : Dev nD) (j : S4096x8192.Idx) :
    out0_2 (iblk m c 0 t0) (iblk m c 1 t0) j = result (xA m c) (wA m c) (j 0) (j 1) := by
  refine (Value.canon2_eq _ _ j).trans ?_
  have e0 : View.ld (iblk m c 0 t0) r0_1 (Value.ix2_0 j) = prod (xA m c) (wA m c) (j 0) (j 1) := by
    refine (iblk0 m c _).trans (Eq.trans ?_ (yA_apply m c (j 0) (j 1)))
    congr 1; funext a; apply Fin.ext
    match a with
    | ⟨0, _⟩ => show 0 + 1 * (j 0).val = (j 0).val; omega
    | ⟨1, _⟩ => show 0 + 1 * (j 1).val = (j 1).val; omega
  have e1 (k : S1x1.Idx) : View.ld (iblk m c 1 t0) r0_0 k = scale (xA m c) (wA m c) := iblk1 m c _
  unfold Value.E2
  simp only [e0, e1]
  show min (Ideal.ofBits .f32 0x43E00000#32) (max (Ideal.ofBits .f32 0xC3E00000#32) (Ideal.div (prod (xA m c) (wA m c) (j 0) (j 1))
    (scale (xA m c) (wA m c)))) * scale (xA m c) (wA m c) = _
  rw [bits_448, bits_neg_448]
  exact clip_eq _ _ (mag_le _ _ _ _)

/-- The result of the reference. -/
theorem arr_eq (c : Dev nD) : (dats m 0 c).arrAt 2 cfg0.N
    = fun i : S4096x8192.Idx => result (xA m c) (wA m c) (i 0) (i 1) :=
  (dats m 0 c).arrAt_eq_of_after_last 2 t0 whole2 _ (fun j => (congrFun (after0_2 m c t0) j).trans (out_eq m c j))

end Cert.ReferenceIdeal.Whole

end
-- ==== Proof.lean ====
/- The proof of the claims about the fp8 exchange kernel: the runs of the two programs are in the modules `Kern*` and `Ideal*`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.IdealLaunch
public import proofs.«01_k».proof.Proof.KernLaunch
public import proofs.«01_k».proof.Proof.ValueKernel
public import proofs.«01_k».proof.Proof.ValueRef
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) := fun m g _ =>
  (θ_run _ _ _).mono (fun _ h => ⟨fun c => ⟨(h.1 c).x, (h.1 c).w⟩, h.2⟩) (Cert.Kernel.Ring.run_main m g)

theorem frame_ideal : Cert.quiescent_KernelIdeal (hKernelIdeal := Cert.KernelIdeal.Gen.facts) := fun m g _ =>
  (θ_run _ _ _).mono (fun _ h => ⟨fun c => ⟨(h.1 c).x, (h.1 c).w⟩, h.2⟩) (Cert.KernelIdeal.Ring.run_main m g)

theorem frame_reference : Cert.quiescent_ReferenceIdeal (hReferenceIdeal := Cert.ReferenceIdeal.Gen.facts) := fun m g _ =>
  Cert.ReferenceIdeal.Gen.frame m g

/-- The devices' arguments, when they hold their blocks of the reference's. -/
theorem parts (m : (ℓ : Loc Cert.KernelIdeal.nD Cert.KernelIdeal.τ Cert.KernelIdeal.sig) → Buf (Elt Ideal) ℓ)
    (X : Cert.Value.Sx.Idx → EReal) (W : Cert.Value.Sw.Idx → EReal)
    (h : ∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c X
      ∧ m ((c.tc : Thread Cert.KernelIdeal.nD Cert.KernelIdeal.τ).loc Cert.KernelIdeal.main_arg1) = W) :
    Cert.KernelIdeal.Ring.Parts m X W where
  x c a k := by
    rw [(h c).1, Layout.block_apply]
    congr 1; funext e; apply Fin.ext
    match e with
    | ⟨0, _⟩ => exact congrArg (· + a.val) (Nat.mul_comm c.val 256)
    | ⟨1, _⟩ => rfl
  w c k q := by rw [(h c).2]

theorem algebraic : Cert.algebraic_KernelIdeal_ReferenceIdeal (hKernelIdeal := Cert.KernelIdeal.Gen.facts)
    (hReferenceIdeal := Cert.ReferenceIdeal.Gen.facts) := by
  intro m g m' g' _ h
  have hp := parts m _ _ h
  refine ⟨fun i : Cert.ReferenceIdeal.S4096x8192.Idx =>
    Cert.Value.result (Cert.ReferenceIdeal.Whole.xA m' 0) (Cert.ReferenceIdeal.Whole.wA m' 0) (i 0) (i 1), ?_, ?_⟩
  · refine (θ_run _ _ _).mono (fun r hr c => ⟨((hr.1 c).o).trans ?_, (hr.1 c).x, (hr.1 c).w⟩) (Cert.KernelIdeal.Ring.run_main m g)
    refine (Cert.KernelIdeal.Ring.arr_eq g hp c).trans (funext fun i => ?_)
    refine Eq.trans ?_ (Layout.block_apply (S := ⟨2, ![4096, 512]⟩) (T := ⟨2, ![4096, 8192]⟩) (a := 1) (k := 16) c _ _ i).symm
    congr 1
    exact Fin.ext (congrArg (· + (i 1).val) (Nat.mul_comm 512 c.val))
  · exact (θ_run _ _ _).mono (fun r hr => ⟨(hr 0).1.trans (Cert.ReferenceIdeal.Whole.arr_eq m' 0), (hr 0).2.1, (hr 0).2.2⟩)
      (Cert.ReferenceIdeal.Value.run_blocks m' g')

theorem claim : Cert.Claim :=
  ⟨Cert.Kernel.Gen.facts, Cert.KernelIdeal.Gen.facts, Cert.ReferenceIdeal.Gen.facts,
    frame_kernel, frame_ideal, frame_reference, trivial, algebraic⟩

end Cert.Proof

end
